-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_tame_ClippedIdeal [hPre_tame_ClippedIdeal : Cert.Pre_tame_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_tame_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_tame_ClippedIdeal [hClippedIdeal : Cert.ClippedIdeal.Facts] [hPre_tame_ClippedIdeal : Cert.Pre_tame_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_tame_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_tame_KernelIdeal [hKernelIdeal : Cert.KernelIdeal.Facts] [hClippedIdeal : Cert.ClippedIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v6) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_tame_KernelIdeal : Cert.Pre_tame_KernelIdeal.Facts) (hPre_tame_ClippedIdeal : Cert.Pre_tame_ClippedIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ClippedIdeal (hClippedIdeal := hClippedIdeal)
    ∧ quiescent_ClippedIdeal_pre_tame_ClippedIdeal (hClippedIdeal := hClippedIdeal) (hPre_tame_ClippedIdeal := hPre_tame_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_tame_KernelIdeal (hKernelIdeal := hKernelIdeal) (hClippedIdeal := hClippedIdeal) (hPre_tame_KernelIdeal := hPre_tame_KernelIdeal)
-- ==== Pre_tame_ClippedIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S4096x1x2048 : Shape := ⟨3, ![4096, 1, 2048]⟩
abbrev S_ : Shape := ⟨0, ![]⟩

class Facts : Prop where
  shapeCasts_S4096x2048_S1x4096x2048 : S4096x2048.ShapeCasts S1x4096x2048
  bcast_S_S4096x1x2048 : S_.BroadcastsInDim S4096x1x2048 (![] : Fin 0 → Fin S4096x1x2048.rank)
  reducesTo_S4096x1x2048_S_d0_1_2 : S4096x1x2048.ReducesTo [0, 1, 2] S_
  h_S_ : 0 < S_.numel
  dot_S4096x4096_S1x4096x2048_S4096x1x2048_1_1_0_02_n_n_wf : DotDims.WF S4096x4096 S1x4096x2048 S4096x1x2048 [1] [1] [0] [0, 2] [] []

variable [Facts]

def dot_S4096x4096_S1x4096x2048_S4096x1x2048_1_1_0_02_n_n : DotDims S4096x4096 S1x4096x2048 S4096x1x2048 where
  lhsContracting := [1]
  rhsContracting := [1]
  lhsNonContracting := [0]
  rhsNonContracting := [0, 2]
  lhsBatch := []
  rhsBatch := []
  wf := dot_S4096x4096_S1x4096x2048_S4096x1x2048_1_1_0_02_n_n_wf
def fn {F : FTy → Type} [FloatOps F] (main_arg0 : FVec F S4096x4096 .f32) (main_arg1 : FVec F S4096x2048 .f32) : IVec S_ 1 :=
  let main_v0 : FVec F S1x4096x2048 .f32 := shapeCast S1x4096x2048 main_arg1 shapeCasts_S4096x2048_S1x4096x2048
  let main_v1 : FVec F S4096x1x2048 .f32 := (fun l r => Host.dotGeneral dot_S4096x4096_S1x4096x2048_S4096x1x2048_1_1_0_02_n_n none l r) main_arg0 main_v0
  let main_cst : FVec F S_ .f32 := constant S_ .f32 0xBFF00000#32
  let main_v2 : FVec F S4096x1x2048 .f32 := broadcastInDim S4096x1x2048 ![] bcast_S_S4096x1x2048 main_cst
  let main_v3 : IVec S4096x1x2048 1 := cmpf .oge main_v1 main_v2
  let main_cst_0 : FVec F S_ .f32 := constant S_ .f32 0x3FF00000#32
  let main_v4 : FVec F S4096x1x2048 .f32 := broadcastInDim S4096x1x2048 ![] bcast_S_S4096x1x2048 main_cst_0
  let main_v5 : IVec S4096x1x2048 1 := cmpf .ole main_v1 main_v4
  let main_v6 : IVec S4096x1x2048 1 := andi main_v3 main_v5
  let main_c : IVec S_ 1 := constantI S_ 1 1#1
  let main_v7 : IVec S_ 1 := (fun x v => Host.reduce IntOp.andi x v reducesTo_S4096x1x2048_S_d0_1_2 h_S_) main_v6 main_c
  main_v7
-- ==== Pre_tame_KernelIdeal.lean ====
abbrev S4096x128 : Shape := ⟨2, ![4096, 128]⟩
abbrev S4096x2048 : Shape := ⟨2, ![4096, 2048]⟩
abbrev S32x128x2048 : Shape := ⟨3, ![32, 128, 2048]⟩
abbrev S4096x32x2048 : Shape := ⟨3, ![4096, 32, 2048]⟩
abbrev S_ : Shape := ⟨0, ![]⟩

class Facts : Prop where
  shapeCasts_S4096x2048_S32x128x2048 : S4096x2048.ShapeCasts S32x128x2048
  bcast_S_S4096x32x2048 : S_.BroadcastsInDim S4096x32x2048 (![] : Fin 0 → Fin S4096x32x2048.rank)
  reducesTo_S4096x32x2048_S_d0_1_2 : S4096x32x2048.ReducesTo [0, 1, 2] S_
  h_S_ : 0 < S_.numel
  dot_S4096x128_S32x128x2048_S4096x32x2048_1_1_0_02_n_n_wf : DotDims.WF S4096x128 S32x128x2048 S4096x32x2048 [1] [1] [0] [0, 2] [] []

variable [Facts]

def dot_S4096x128_S32x128x2048_S4096x32x2048_1_1_0_02_n_n : DotDims S4096x128 S32x128x2048 S4096x32x2048 where
  lhsContracting := [1]
  rhsContracting := [1]
  lhsNonContracting := [0]
  rhsNonContracting := [0, 2]
  lhsBatch := []
  rhsBatch := []
  wf := dot_S4096x128_S32x128x2048_S4096x32x2048_1_1_0_02_n_n_wf
def fn {F : FTy → Type} [FloatOps F] (main_arg0 : FVec F S4096x128 .f32) (main_arg1 : FVec F S4096x2048 .f32) : IVec S_ 1 :=
  let main_v0 : FVec F S32x128x2048 .f32 := shapeCast S32x128x2048 main_arg1 shapeCasts_S4096x2048_S32x128x2048
  let main_v1 : FVec F S4096x32x2048 .f32 := (fun l r => Host.dotGeneral dot_S4096x128_S32x128x2048_S4096x32x2048_1_1_0_02_n_n none l r) main_arg0 main_v0
  let main_cst : FVec F S_ .f32 := constant S_ .f32 0xBFF00000#32
  let main_v2 : FVec F S4096x32x2048 .f32 := broadcastInDim S4096x32x2048 ![] bcast_S_S4096x32x2048 main_cst
  let main_v3 : IVec S4096x32x2048 1 := cmpf .oge main_v1 main_v2
  let main_cst_0 : FVec F S_ .f32 := constant S_ .f32 0x3FF00000#32
  let main_v4 : FVec F S4096x32x2048 .f32 := broadcastInDim S4096x32x2048 ![] bcast_S_S4096x32x2048 main_cst_0
  let main_v5 : IVec S4096x32x2048 1 := cmpf .ole main_v1 main_v4
  let main_v6 : IVec S4096x32x2048 1 := andi main_v3 main_v5
  let main_c : IVec S_ 1 := constantI S_ 1 1#1
  let main_v7 : IVec S_ 1 := (fun x v => Host.reduce IntOp.andi x v reducesTo_S4096x32x2048_S_d0_1_2 h_S_) main_v6 main_c
  main_v7
-- ==== Kernel.lean ====
abbrev S4096x128 : Shape := ⟨2, ![4096, 128]⟩
abbrev S4096x2048 : Shape := ⟨2, ![4096, 2048]⟩
abbrev S128x2048 : Shape := ⟨2, ![128, 2048]⟩
abbrev S128x4096 : Shape := ⟨2, ![128, 4096]⟩
abbrev S32 : Shape := ⟨1, ![32]⟩
abbrev S_ : Shape := ⟨0, ![]⟩
abbrev S1 : Shape := ⟨1, ![1]⟩
abbrev S128x128 : Shape := ⟨2, ![128, 128]⟩
abbrev S128x512 : Shape := ⟨2, ![128, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .bf16⟩
  | .local _ .vmem, ⟨3, _⟩ => ⟨S128x4096, .bf16⟩
  | .local _ .vmem, ⟨4, _⟩ => ⟨S4096x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  v5.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v6 : BitVec 32 := Scalar.addi v2 c2_i32
  let c32_i32_3 : BitVec 32 := 32#32
  let v7 : BitVec 32 := Scalar.remsi v6 c32_i32_3
  v7.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v8 : BitVec 32 := Scalar.addi v2 c3_i32
  let c32_i32_5 : BitVec 32 := 32#32
  let v9 : BitVec 32 := Scalar.remsi v8 c32_i32_5
  v9.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.addi v2 c4_i32
  let c32_i32_7 : BitVec 32 := 32#32
  let v11 : BitVec 32 := Scalar.remsi v10 c32_i32_7
  v11.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v12 : BitVec 32 := Scalar.addi v2 c5_i32
  let c32_i32_9 : BitVec 32 := 32#32
  let v13 : BitVec 32 := Scalar.remsi v12 c32_i32_9
  v13.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v14 : BitVec 32 := Scalar.addi v2 c6_i32
  let c32_i32_11 : BitVec 32 := 32#32
  let v15 : BitVec 32 := Scalar.remsi v14 c32_i32_11
  v15.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v16 : BitVec 32 := Scalar.addi v2 c7_i32
  let c32_i32_13 : BitVec 32 := 32#32
  let v17 : BitVec 32 := Scalar.remsi v16 c32_i32_13
  v17.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v18 : BitVec 32 := Scalar.addi v2 c8_i32
  let c32_i32_15 : BitVec 32 := 32#32
  let v19 : BitVec 32 := Scalar.remsi v18 c32_i32_15
  v19.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v20 : BitVec 32 := Scalar.addi v2 c9_i32
  let c32_i32_17 : BitVec 32 := 32#32
  let v21 : BitVec 32 := Scalar.remsi v20 c32_i32_17
  v21.toNat
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v22 : BitVec 32 := Scalar.addi v2 c10_i32
  let c32_i32_19 : BitVec 32 := 32#32
  let v23 : BitVec 32 := Scalar.remsi v22 c32_i32_19
  v23.toNat
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v24 : BitVec 32 := Scalar.addi v2 c11_i32
  let c32_i32_21 : BitVec 32 := 32#32
  let v25 : BitVec 32 := Scalar.remsi v24 c32_i32_21
  v25.toNat
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v26 : BitVec 32 := Scalar.addi v2 c12_i32
  let c32_i32_23 : BitVec 32 := 32#32
  let v27 : BitVec 32 := Scalar.remsi v26 c32_i32_23
  v27.toNat
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v28 : BitVec 32 := Scalar.addi v2 c13_i32
  let c32_i32_25 : BitVec 32 := 32#32
  let v29 : BitVec 32 := Scalar.remsi v28 c32_i32_25
  v29.toNat
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v30 : BitVec 32 := Scalar.addi v2 c14_i32
  let c32_i32_27 : BitVec 32 := 32#32
  let v31 : BitVec 32 := Scalar.remsi v30 c32_i32_27
  v31.toNat
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v32 : BitVec 32 := Scalar.addi v2 c15_i32
  let c32_i32_29 : BitVec 32 := 32#32
  let v33 : BitVec 32 := Scalar.remsi v32 c32_i32_29
  v33.toNat
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v34 : BitVec 32 := Scalar.addi v2 c16_i32
  let c32_i32_31 : BitVec 32 := 32#32
  let v35 : BitVec 32 := Scalar.remsi v34 c32_i32_31
  v35.toNat
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v36 : BitVec 32 := Scalar.addi v2 c17_i32
  let c32_i32_33 : BitVec 32 := 32#32
  let v37 : BitVec 32 := Scalar.remsi v36 c32_i32_33
  v37.toNat
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v38 : BitVec 32 := Scalar.addi v2 c18_i32
  let c32_i32_35 : BitVec 32 := 32#32
  let v39 : BitVec 32 := Scalar.remsi v38 c32_i32_35
  v39.toNat
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v40 : BitVec 32 := Scalar.addi v2 c19_i32
  let c32_i32_37 : BitVec 32 := 32#32
  let v41 : BitVec 32 := Scalar.remsi v40 c32_i32_37
  v41.toNat
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v42 : BitVec 32 := Scalar.addi v2 c20_i32
  let c32_i32_39 : BitVec 32 := 32#32
  let v43 : BitVec 32 := Scalar.remsi v42 c32_i32_39
  v43.toNat
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v44 : BitVec 32 := Scalar.addi v2 c21_i32
  let c32_i32_41 : BitVec 32 := 32#32
  let v45 : BitVec 32 := Scalar.remsi v44 c32_i32_41
  v45.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v46 : BitVec 32 := Scalar.addi v2 c22_i32
  let c32_i32_43 : BitVec 32 := 32#32
  let v47 : BitVec 32 := Scalar.remsi v46 c32_i32_43
  v47.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v48 : BitVec 32 := Scalar.addi v2 c23_i32
  let c32_i32_45 : BitVec 32 := 32#32
  let v49 : BitVec 32 := Scalar.remsi v48 c32_i32_45
  v49.toNat
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v50 : BitVec 32 := Scalar.addi v2 c24_i32
  let c32_i32_47 : BitVec 32 := 32#32
  let v51 : BitVec 32 := Scalar.remsi v50 c32_i32_47
  v51.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v52 : BitVec 32 := Scalar.addi v2 c25_i32
  let c32_i32_49 : BitVec 32 := 32#32
  let v53 : BitVec 32 := Scalar.remsi v52 c32_i32_49
  v53.toNat
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v54 : BitVec 32 := Scalar.addi v2 c26_i32
  let c32_i32_51 : BitVec 32 := 32#32
  let v55 : BitVec 32 := Scalar.remsi v54 c32_i32_51
  v55.toNat
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v56 : BitVec 32 := Scalar.addi v2 c27_i32
  let c32_i32_53 : BitVec 32 := 32#32
  let v57 : BitVec 32 := Scalar.remsi v56 c32_i32_53
  v57.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v58 : BitVec 32 := Scalar.addi v2 c28_i32
  let c32_i32_55 : BitVec 32 := 32#32
  let v59 : BitVec 32 := Scalar.remsi v58 c32_i32_55
  v59.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v60 : BitVec 32 := Scalar.addi v2 c29_i32
  let c32_i32_57 : BitVec 32 := 32#32
  let v61 : BitVec 32 := Scalar.remsi v60 c32_i32_57
  v61.toNat
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v62 : BitVec 32 := Scalar.addi v2 c30_i32
  let c32_i32_59 : BitVec 32 := 32#32
  let v63 : BitVec 32 := Scalar.remsi v62 c32_i32_59
  v63.toNat
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v64 : BitVec 32 := Scalar.addi v2 c31_i32
  let c32_i32_61 : BitVec 32 := 32#32
  let v65 : BitVec 32 := Scalar.remsi v64 c32_i32_61
  v65.toNat
def k0_off1 (d0 : Dev nD) (c28_i32_63 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v66 : BitVec 32 := Scalar.addi c28_i32_63 v2
  let c32_i32_64 : BitVec 32 := 32#32
  let v67 : BitVec 32 := Scalar.remsi v66 c32_i32_64
  let c128_i32 : BitVec 32 := 128#32
  let v68 : BitVec 32 := Scalar.muli v67 c128_i32
  let c0_i32_66 : BitVec 32 := 0#32
  ![v68.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_258 : BitVec 32 := 128#32
  let v296 : BitVec 32 := Scalar.muli v2 c128_i32_258
  let c0_i32_261 : BitVec 32 := 0#32
  ![v296.toNat, 0]
def k0_off3 (d0 : Dev nD) (c1_i32_263 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v299 : BitVec 32 := Scalar.addi v2 c1_i32_263
  let c32_i32_264 : BitVec 32 := 32#32
  let v300 : BitVec 32 := Scalar.remsi v299 c32_i32_264
  let c128_i32_265 : BitVec 32 := 128#32
  let v301 : BitVec 32 := Scalar.muli v300 c128_i32_265
  let c0_i32_272 : BitVec 32 := 0#32
  ![v301.toNat, 0]
def k0_dev32 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_263 : BitVec 32 := 1#32
  let v299 : BitVec 32 := Scalar.addi v2 c1_i32_263
  let c32_i32_264 : BitVec 32 := 32#32
  let v300 : BitVec 32 := Scalar.remsi v299 c32_i32_264
  let c1_i32_268 : BitVec 32 := 1#32
  let v302 : BitVec 32 := Scalar.muli v300 c1_i32_268
  let v303 : BitVec 32 := Scalar.addi c0_i32_269 v302
  v303.toNat
def k0_dev33 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_273 : BitVec 32 := 2#32
  let v310 : BitVec 32 := Scalar.addi v2 c2_i32_273
  let c32_i32_274 : BitVec 32 := 32#32
  let v311 : BitVec 32 := Scalar.remsi v310 c32_i32_274
  let c1_i32_278 : BitVec 32 := 1#32
  let v313 : BitVec 32 := Scalar.muli v311 c1_i32_278
  let v314 : BitVec 32 := Scalar.addi c0_i32_279 v313
  v314.toNat
def k0_dev34 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_283 : BitVec 32 := 3#32
  let v321 : BitVec 32 := Scalar.addi v2 c3_i32_283
  let c32_i32_284 : BitVec 32 := 32#32
  let v322 : BitVec 32 := Scalar.remsi v321 c32_i32_284
  let c1_i32_288 : BitVec 32 := 1#32
  let v324 : BitVec 32 := Scalar.muli v322 c1_i32_288
  let v325 : BitVec 32 := Scalar.addi c0_i32_289 v324
  v325.toNat
def k0_dev35 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_293 : BitVec 32 := 4#32
  let v332 : BitVec 32 := Scalar.addi v2 c4_i32_293
  let c32_i32_294 : BitVec 32 := 32#32
  let v333 : BitVec 32 := Scalar.remsi v332 c32_i32_294
  let c1_i32_298 : BitVec 32 := 1#32
  let v335 : BitVec 32 := Scalar.muli v333 c1_i32_298
  let v336 : BitVec 32 := Scalar.addi c0_i32_299 v335
  v336.toNat
def k0_dev36 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_303 : BitVec 32 := 5#32
  let v343 : BitVec 32 := Scalar.addi v2 c5_i32_303
  let c32_i32_304 : BitVec 32 := 32#32
  let v344 : BitVec 32 := Scalar.remsi v343 c32_i32_304
  let c1_i32_308 : BitVec 32 := 1#32
  let v346 : BitVec 32 := Scalar.muli v344 c1_i32_308
  let v347 : BitVec 32 := Scalar.addi c0_i32_309 v346
  v347.toNat
def k0_dev37 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_313 : BitVec 32 := 6#32
  let v354 : BitVec 32 := Scalar.addi v2 c6_i32_313
  let c32_i32_314 : BitVec 32 := 32#32
  let v355 : BitVec 32 := Scalar.remsi v354 c32_i32_314
  let c1_i32_318 : BitVec 32 := 1#32
  let v357 : BitVec 32 := Scalar.muli v355 c1_i32_318
  let v358 : BitVec 32 := Scalar.addi c0_i32_319 v357
  v358.toNat
def k0_dev38 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_323 : BitVec 32 := 7#32
  let v365 : BitVec 32 := Scalar.addi v2 c7_i32_323
  let c32_i32_324 : BitVec 32 := 32#32
  let v366 : BitVec 32 := Scalar.remsi v365 c32_i32_324
  let c1_i32_328 : BitVec 32 := 1#32
  let v368 : BitVec 32 := Scalar.muli v366 c1_i32_328
  let v369 : BitVec 32 := Scalar.addi c0_i32_329 v368
  v369.toNat
def k0_dev39 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_333 : BitVec 32 := 8#32
  let v376 : BitVec 32 := Scalar.addi v2 c8_i32_333
  let c32_i32_334 : BitVec 32 := 32#32
  let v377 : BitVec 32 := Scalar.remsi v376 c32_i32_334
  let c1_i32_338 : BitVec 32 := 1#32
  let v379 : BitVec 32 := Scalar.muli v377 c1_i32_338
  let v380 : BitVec 32 := Scalar.addi c0_i32_339 v379
  v380.toNat
def k0_dev40 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_343 : BitVec 32 := 9#32
  let v387 : BitVec 32 := Scalar.addi v2 c9_i32_343
  let c32_i32_344 : BitVec 32 := 32#32
  let v388 : BitVec 32 := Scalar.remsi v387 c32_i32_344
  let c1_i32_348 : BitVec 32 := 1#32
  let v390 : BitVec 32 := Scalar.muli v388 c1_i32_348
  let v391 : BitVec 32 := Scalar.addi c0_i32_349 v390
  v391.toNat
def k0_dev41 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_353 : BitVec 32 := 10#32
  let v398 : BitVec 32 := Scalar.addi v2 c10_i32_353
  let c32_i32_354 : BitVec 32 := 32#32
  let v399 : BitVec 32 := Scalar.remsi v398 c32_i32_354
  let c1_i32_358 : BitVec 32 := 1#32
  let v401 : BitVec 32 := Scalar.muli v399 c1_i32_358
  let v402 : BitVec 32 := Scalar.addi c0_i32_359 v401
  v402.toNat
def k0_dev42 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_363 : BitVec 32 := 11#32
  let v409 : BitVec 32 := Scalar.addi v2 c11_i32_363
  let c32_i32_364 : BitVec 32 := 32#32
  let v410 : BitVec 32 := Scalar.remsi v409 c32_i32_364
  let c1_i32_368 : BitVec 32 := 1#32
  let v412 : BitVec 32 := Scalar.muli v410 c1_i32_368
  let v413 : BitVec 32 := Scalar.addi c0_i32_369 v412
  v413.toNat
def k0_dev43 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_373 : BitVec 32 := 12#32
  let v420 : BitVec 32 := Scalar.addi v2 c12_i32_373
  let c32_i32_374 : BitVec 32 := 32#32
  let v421 : BitVec 32 := Scalar.remsi v420 c32_i32_374
  let c1_i32_378 : BitVec 32 := 1#32
  let v423 : BitVec 32 := Scalar.muli v421 c1_i32_378
  let v424 : BitVec 32 := Scalar.addi c0_i32_379 v423
  v424.toNat
def k0_dev44 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_383 : BitVec 32 := 13#32
  let v431 : BitVec 32 := Scalar.addi v2 c13_i32_383
  let c32_i32_384 : BitVec 32 := 32#32
  let v432 : BitVec 32 := Scalar.remsi v431 c32_i32_384
  let c1_i32_388 : BitVec 32 := 1#32
  let v434 : BitVec 32 := Scalar.muli v432 c1_i32_388
  let v435 : BitVec 32 := Scalar.addi c0_i32_389 v434
  v435.toNat
def k0_dev45 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_393 : BitVec 32 := 14#32
  let v442 : BitVec 32 := Scalar.addi v2 c14_i32_393
  let c32_i32_394 : BitVec 32 := 32#32
  let v443 : BitVec 32 := Scalar.remsi v442 c32_i32_394
  let c1_i32_398 : BitVec 32 := 1#32
  let v445 : BitVec 32 := Scalar.muli v443 c1_i32_398
  let v446 : BitVec 32 := Scalar.addi c0_i32_399 v445
  v446.toNat
def k0_dev46 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_403 : BitVec 32 := 15#32
  let v453 : BitVec 32 := Scalar.addi v2 c15_i32_403
  let c32_i32_404 : BitVec 32 := 32#32
  let v454 : BitVec 32 := Scalar.remsi v453 c32_i32_404
  let c1_i32_408 : BitVec 32 := 1#32
  let v456 : BitVec 32 := Scalar.muli v454 c1_i32_408
  let v457 : BitVec 32 := Scalar.addi c0_i32_409 v456
  v457.toNat
def k0_dev47 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_413 : BitVec 32 := 16#32
  let v464 : BitVec 32 := Scalar.addi v2 c16_i32_413
  let c32_i32_414 : BitVec 32 := 32#32
  let v465 : BitVec 32 := Scalar.remsi v464 c32_i32_414
  let c1_i32_418 : BitVec 32 := 1#32
  let v467 : BitVec 32 := Scalar.muli v465 c1_i32_418
  let v468 : BitVec 32 := Scalar.addi c0_i32_419 v467
  v468.toNat
def k0_dev48 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_423 : BitVec 32 := 17#32
  let v475 : BitVec 32 := Scalar.addi v2 c17_i32_423
  let c32_i32_424 : BitVec 32 := 32#32
  let v476 : BitVec 32 := Scalar.remsi v475 c32_i32_424
  let c1_i32_428 : BitVec 32 := 1#32
  let v478 : BitVec 32 := Scalar.muli v476 c1_i32_428
  let v479 : BitVec 32 := Scalar.addi c0_i32_429 v478
  v479.toNat
def k0_dev49 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_433 : BitVec 32 := 18#32
  let v486 : BitVec 32 := Scalar.addi v2 c18_i32_433
  let c32_i32_434 : BitVec 32 := 32#32
  let v487 : BitVec 32 := Scalar.remsi v486 c32_i32_434
  let c1_i32_438 : BitVec 32 := 1#32
  let v489 : BitVec 32 := Scalar.muli v487 c1_i32_438
  let v490 : BitVec 32 := Scalar.addi c0_i32_439 v489
  v490.toNat
def k0_dev50 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_443 : BitVec 32 := 19#32
  let v497 : BitVec 32 := Scalar.addi v2 c19_i32_443
  let c32_i32_444 : BitVec 32 := 32#32
  let v498 : BitVec 32 := Scalar.remsi v497 c32_i32_444
  let c1_i32_448 : BitVec 32 := 1#32
  let v500 : BitVec 32 := Scalar.muli v498 c1_i32_448
  let v501 : BitVec 32 := Scalar.addi c0_i32_449 v500
  v501.toNat
def k0_dev51 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_453 : BitVec 32 := 20#32
  let v508 : BitVec 32 := Scalar.addi v2 c20_i32_453
  let c32_i32_454 : BitVec 32 := 32#32
  let v509 : BitVec 32 := Scalar.remsi v508 c32_i32_454
  let c1_i32_458 : BitVec 32 := 1#32
  let v511 : BitVec 32 := Scalar.muli v509 c1_i32_458
  let v512 : BitVec 32 := Scalar.addi c0_i32_459 v511
  v512.toNat
def k0_dev52 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_463 : BitVec 32 := 21#32
  let v519 : BitVec 32 := Scalar.addi v2 c21_i32_463
  let c32_i32_464 : BitVec 32 := 32#32
  let v520 : BitVec 32 := Scalar.remsi v519 c32_i32_464
  let c1_i32_468 : BitVec 32 := 1#32
  let v522 : BitVec 32 := Scalar.muli v520 c1_i32_468
  let v523 : BitVec 32 := Scalar.addi c0_i32_469 v522
  v523.toNat
def k0_dev53 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_473 : BitVec 32 := 22#32
  let v530 : BitVec 32 := Scalar.addi v2 c22_i32_473
  let c32_i32_474 : BitVec 32 := 32#32
  let v531 : BitVec 32 := Scalar.remsi v530 c32_i32_474
  let c1_i32_478 : BitVec 32 := 1#32
  let v533 : BitVec 32 := Scalar.muli v531 c1_i32_478
  let v534 : BitVec 32 := Scalar.addi c0_i32_479 v533
  v534.toNat
def k0_dev54 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_483 : BitVec 32 := 23#32
  let v541 : BitVec 32 := Scalar.addi v2 c23_i32_483
  let c32_i32_484 : BitVec 32 := 32#32
  let v542 : BitVec 32 := Scalar.remsi v541 c32_i32_484
  let c1_i32_488 : BitVec 32 := 1#32
  let v544 : BitVec 32 := Scalar.muli v542 c1_i32_488
  let v545 : BitVec 32 := Scalar.addi c0_i32_489 v544
  v545.toNat
def k0_dev55 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_493 : BitVec 32 := 24#32
  let v552 : BitVec 32 := Scalar.addi v2 c24_i32_493
  let c32_i32_494 : BitVec 32 := 32#32
  let v553 : BitVec 32 := Scalar.remsi v552 c32_i32_494
  let c1_i32_498 : BitVec 32 := 1#32
  let v555 : BitVec 32 := Scalar.muli v553 c1_i32_498
  let v556 : BitVec 32 := Scalar.addi c0_i32_499 v555
  v556.toNat
def k0_dev56 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_503 : BitVec 32 := 25#32
  let v563 : BitVec 32 := Scalar.addi v2 c25_i32_503
  let c32_i32_504 : BitVec 32 := 32#32
  let v564 : BitVec 32 := Scalar.remsi v563 c32_i32_504
  let c1_i32_508 : BitVec 32 := 1#32
  let v566 : BitVec 32 := Scalar.muli v564 c1_i32_508
  let v567 : BitVec 32 := Scalar.addi c0_i32_509 v566
  v567.toNat
def k0_dev57 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_513 : BitVec 32 := 26#32
  let v574 : BitVec 32 := Scalar.addi v2 c26_i32_513
  let c32_i32_514 : BitVec 32 := 32#32
  let v575 : BitVec 32 := Scalar.remsi v574 c32_i32_514
  let c1_i32_518 : BitVec 32 := 1#32
  let v577 : BitVec 32 := Scalar.muli v575 c1_i32_518
  let v578 : BitVec 32 := Scalar.addi c0_i32_519 v577
  v578.toNat
def k0_dev58 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_523 : BitVec 32 := 27#32
  let v585 : BitVec 32 := Scalar.addi v2 c27_i32_523
  let c32_i32_524 : BitVec 32 := 32#32
  let v586 : BitVec 32 := Scalar.remsi v585 c32_i32_524
  let c1_i32_528 : BitVec 32 := 1#32
  let v588 : BitVec 32 := Scalar.muli v586 c1_i32_528
  let v589 : BitVec 32 := Scalar.addi c0_i32_529 v588
  v589.toNat
def k0_dev59 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_533 : BitVec 32 := 28#32
  let v596 : BitVec 32 := Scalar.addi v2 c28_i32_533
  let c32_i32_534 : BitVec 32 := 32#32
  let v597 : BitVec 32 := Scalar.remsi v596 c32_i32_534
  let c1_i32_538 : BitVec 32 := 1#32
  let v599 : BitVec 32 := Scalar.muli v597 c1_i32_538
  let v600 : BitVec 32 := Scalar.addi c0_i32_539 v599
  v600.toNat
def k0_dev60 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_543 : BitVec 32 := 29#32
  let v607 : BitVec 32 := Scalar.addi v2 c29_i32_543
  let c32_i32_544 : BitVec 32 := 32#32
  let v608 : BitVec 32 := Scalar.remsi v607 c32_i32_544
  let c1_i32_548 : BitVec 32 := 1#32
  let v610 : BitVec 32 := Scalar.muli v608 c1_i32_548
  let v611 : BitVec 32 := Scalar.addi c0_i32_549 v610
  v611.toNat
def k0_dev61 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_553 : BitVec 32 := 30#32
  let v618 : BitVec 32 := Scalar.addi v2 c30_i32_553
  let c32_i32_554 : BitVec 32 := 32#32
  let v619 : BitVec 32 := Scalar.remsi v618 c32_i32_554
  let c1_i32_558 : BitVec 32 := 1#32
  let v621 : BitVec 32 := Scalar.muli v619 c1_i32_558
  let v622 : BitVec 32 := Scalar.addi c0_i32_559 v621
  v622.toNat
def k0_dev62 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_563 : BitVec 32 := 31#32
  let v629 : BitVec 32 := Scalar.addi v2 c31_i32_563
  let c32_i32_564 : BitVec 32 := 32#32
  let v630 : BitVec 32 := Scalar.remsi v629 c32_i32_564
  let c1_i32_568 : BitVec 32 := 1#32
  let v632 : BitVec 32 := Scalar.muli v630 c1_i32_568
  let v633 : BitVec 32 := Scalar.addi c0_i32_569 v632
  v633.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Pieces.lean ====
/-
Families indexed by the numbers of an interval, and a buffer cut into its blocks.

A device of this kernel works off lists: the signals it still has to send, the copies that are under way, the waits that it
has done. Each list is a separating conjunction over an interval of natural numbers, and a step of the program takes its
first member off or puts a new last one on. The buffers are cut into blocks by a function that numbers the block of each
element; what a device holds of a buffer is the part whose blocks satisfy a condition.
-/
module

public import Idealize.ShloMosaic.Lib.Pipeline.Kit
public import Idealize.ShloMosaic.Lib.Tactic
public import Mathlib.Algebra.BigOperators.Intervals

@[expose] public section

noncomputable section

namespace Cert.Pieces

open Idealize.ShloMosaic
open Idealize.SL Idealize.SL.RA Idealize.SL.BI
open scoped Idealize.SL.BI
open Idealize.SL.BI.BIBase Idealize.SL.BI.Laws Idealize.SL.ProofMode

/-! ## Intervals -/

section Intervals

variable {M : Type} [URA M] {Φ Ψ : ℕ → sProp M}

/-- One member beside the others. -/
theorem insert_eq {I : Type} [DecidableEq I] {s : Finset I} {i : I} (hi : i ∉ s) {Ξ : I → sProp M} :
    bigSep (insert i s) Ξ = iprop(Ξ i ∗ bigSep s Ξ) := bigSep_insert hi

/-- Two disjoint families side by side. -/
theorem union_eq {I : Type} [DecidableEq I] {s t : Finset I} (h : Disjoint s t) {Ξ : I → sProp M} :
    bigSep (s ∪ t) Ξ = iprop(bigSep s Ξ ∗ bigSep t Ξ) := bigSep_union h

/-- Nothing is left of an empty interval. -/
theorem ico_nil (n : ℕ) : bigSep (Finset.Ico n n) Φ = (iprop(emp) : sProp M) := by
  rw [Finset.Ico_self, bigSep_empty]; rfl

/-- The first member taken off. -/
theorem ico_first {a b : ℕ} (h : a < b) : bigSep (Finset.Ico a b) Φ = iprop(Φ a ∗ bigSep (Finset.Ico (a + 1) b) Φ) := by
  rw [show Finset.Ico a b = insert a (Finset.Ico (a + 1) b) from by ext i; simp only [Finset.mem_Ico, Finset.mem_insert]; omega,
    insert_eq (by simp)]

/-- The last member split off. -/
theorem ico_last {a b : ℕ} (h : a ≤ b) : bigSep (Finset.Ico a (b + 1)) Φ = iprop(Φ b ∗ bigSep (Finset.Ico a b) Φ) := by
  rw [show Finset.Ico a (b + 1) = insert b (Finset.Ico a b) from by ext i; simp only [Finset.mem_Ico, Finset.mem_insert]; omega,
    insert_eq (by simp)]

/-- An interval cut at a number inside it. -/
theorem ico_cut {a b d : ℕ} (h₁ : a ≤ b) (h₂ : b ≤ d) :
    bigSep (Finset.Ico a d) Φ = iprop(bigSep (Finset.Ico a b) Φ ∗ bigSep (Finset.Ico b d) Φ) := by
  rw [← Finset.Ico_union_Ico_eq_Ico h₁ h₂, union_eq (Finset.Ico_disjoint_Ico_consecutive a b d)]

/-- An interval moved. -/
theorem ico_shift (a b k : ℕ) : bigSep (Finset.Ico (a + k) (b + k)) Φ = bigSep (Finset.Ico a b) fun i => Φ (i + k) := by
  rw [show Finset.Ico (a + k) (b + k) = (Finset.Ico a b).map (addRightEmbedding k) from by
    ext i; simp only [Finset.mem_Ico, Finset.mem_map, addRightEmbedding_apply]
    exact ⟨fun h => ⟨i - k, by omega, by omega⟩, fun ⟨j, h, e⟩ => by omega⟩, bigSep_map]; rfl

/-- A family over the first `n` numbers in another order. -/
theorem ico_perm (n : ℕ) (σ : ℕ → ℕ) (hm : ∀ i, i < n → σ i < n) (hi : ∀ i j, i < n → j < n → σ i = σ j → i = j) :
    bigSep (Finset.Ico 0 n) Φ = bigSep (Finset.Ico 0 n) fun i => Φ (σ i) := by
  have hinj : Set.InjOn σ (Finset.Ico 0 n : Finset ℕ) := fun i hi' j hj' e => by
    rw [Finset.coe_Ico, Set.mem_Ico] at hi' hj'
    exact hi i j hi'.2 hj'.2 e
  have himg : (Finset.Ico 0 n).image σ = Finset.Ico 0 n := by
    apply Finset.eq_of_subset_of_card_le
    · intro x hx
      obtain ⟨i, hi', rfl⟩ := Finset.mem_image.mp hx
      rw [Finset.mem_Ico] at hi' ⊢
      exact ⟨Nat.zero_le _, hm i hi'.2⟩
    · rw [Finset.card_image_of_injOn hinj]
  conv_lhs => rw [← himg]
  generalize Finset.Ico 0 n = s at hinj
  clear himg
  induction s using Finset.induction_on with
  | empty => rw [Finset.image_empty, bigSep_empty, bigSep_empty]
  | insert a s ha ih =>
    have h1 : σ a ∉ s.image σ := fun h => by
      obtain ⟨b, hb, e⟩ := Finset.mem_image.mp h
      exact ha (hinj (by simp [hb]) (by simp) e ▸ hb)
    rw [Finset.image_insert, bigSep_insert h1, bigSep_insert ha, ih fun x hx y hy e => hinj (by simp [Finset.mem_coe.mp hx]) (by simp [Finset.mem_coe.mp hy]) e]

/-- A family over `1 … n - 1` from the last to the first. -/
theorem ico_flip (n : ℕ) : bigSep (Finset.Ico 1 n) Φ = bigSep (Finset.Ico 1 n) fun i => Φ (n - i) := by
  by_cases hn : n ≤ 1
  · rw [Finset.Ico_eq_empty (by omega), bigSep_empty, bigSep_empty]
  obtain ⟨k, rfl⟩ : ∃ k, n = k + 1 := ⟨n - 1, by omega⟩
  have e : ∀ Ξ : ℕ → sProp M, bigSep (Finset.Ico 1 (k + 1)) Ξ = bigSep (Finset.Ico 0 k) fun i => Ξ (i + 1) := fun Ξ => by
    have := ico_shift (Φ := Ξ) 0 k 1
    rwa [Nat.zero_add] at this
  rw [e, e, ico_perm (Φ := fun i => Φ (i + 1)) k (fun i => k - 1 - i) (fun i hi => by omega) (fun i j hi hj h => by omega)]
  refine bigSep_congr fun i hi => ?_
  rw [Finset.mem_Ico] at hi
  rw [show k - 1 - i + 1 = k + 1 - (i + 1) by omega]

/-- A family over `Fin n` that reads the number alone is one over the interval. -/
theorem univ_fin (n : ℕ) : bigSep (Finset.univ : Finset (Fin n)) (fun k => Φ k.val) = bigSep (Finset.Ico 0 n) Φ := by
  have h : Finset.Ico 0 n = (Finset.univ : Finset (Fin n)).map Fin.valEmbedding := by
    ext i
    rw [Finset.mem_Ico, Finset.mem_map]
    exact ⟨fun h => ⟨⟨i, h.2⟩, Finset.mem_univ _, rfl⟩, fun ⟨k, _, e⟩ => ⟨Nat.zero_le _, by rw [← e]; exact k.isLt⟩⟩
  rw [h, bigSep_map]; rfl

/-- A sum over an interval, the first term last. -/
theorem sum_first {A : Type} [AddCommMonoid A] {a b : ℕ} (f : ℕ → A) (h : a < b) :
    ∑ d ∈ Finset.Ico a b, f d = ∑ d ∈ Finset.Ico (a + 1) b, f d + f a := by
  rw [Finset.sum_eq_sum_Ico_succ_bot h f, add_comm]

/-- Two nested families, the order of the indices exchanged. -/
theorem bigSep_comm {I : Type} [DecidableEq I] (s : Finset I) (a b : ℕ) (Ξ : I → ℕ → sProp M) :
    bigSep s (fun i => bigSep (Finset.Ico a b) (Ξ i)) = bigSep (Finset.Ico a b) fun d => bigSep s fun i => Ξ i d := by
  by_cases h : a ≤ b
  · obtain ⟨n, rfl⟩ := Nat.exists_eq_add_of_le h
    induction n with
    | zero =>
      rw [Nat.add_zero, ico_nil]
      induction s using Finset.induction_on with
      | empty => rw [bigSep_empty]; rfl
      | insert i s hi ih => rw [insert_eq hi, ih, ico_nil]; exact equiv_iff.mp emp_sep
    | succ n ih =>
      rw [← Nat.add_assoc, ico_last (by omega : a ≤ a + n), ← ih (by omega), ← bigSep_sep']
      exact bigSep_congr fun i _ => ico_last (by omega)
  · rw [Finset.Ico_eq_empty (by omega), bigSep_empty]
    induction s using Finset.induction_on with
    | empty => rw [bigSep_empty]
    | insert i s hi ih => rw [insert_eq hi, ih, bigSep_empty]; exact equiv_iff.mp emp_sep

end Intervals

/-! ## Blocks of a buffer -/

section Blocks

variable {nD : ℕ} {τ : Topo} {sig : RefSig} {Ix : Type} [DecidableEq Ix] {Val : EltTy → Type} {Name : Type} [DecidableEq Name]
  {U : Type} [URA U] {Lvl : Type}

local notation "𝕄" => MT nD τ sig Ix Val Name U Lvl

/-- The elements whose block number satisfies `p`. -/
def part {X : Type} [Fintype X] (b : X → ℕ) (p : ℕ → Prop) [DecidablePred p] : Finset X := Finset.univ.filter fun i => p (b i)

/-- An index is in a part if its block number is. -/
theorem mem_part {X : Type} [Fintype X] {b : X → ℕ} {p : ℕ → Prop} [DecidablePred p] {i : X} : i ∈ part b p ↔ p (b i) := by
  simp [part]

variable {ℓ : Loc nD τ sig} {q : PosShare TreeShare} {f : Buf Val ℓ} (b : Idx ℓ → ℕ)

/-- A buffer is its `n` blocks. -/
theorem blocks_eq (n : ℕ) (h : ∀ i, b i < n) :
    (ℓ ↦{q} f : sProp 𝕄) = bigSep (Finset.Ico 0 n) fun j => ℓ ↦[part b (· = j)]{q} f := by
  rw [← pointsTo_biUnion]
  · congr 1
    ext i
    simp only [Finset.mem_univ, Finset.mem_biUnion, mem_part, Finset.mem_Ico, true_iff]
    exact ⟨b i, ⟨Nat.zero_le _, h i⟩, rfl⟩
  · intro t _ t' _ hne
    exact Finset.disjoint_left.mpr fun i hi hi' => hne ((mem_part.mp hi).symm.trans (mem_part.mp hi'))

/-- Nothing is held where no block satisfies the condition. -/
theorem part_none (p : ℕ → Prop) [DecidablePred p] (h : ∀ i, ¬ p (b i)) : (ℓ ↦[part b p]{q} f : sProp 𝕄) = iprop(emp) := by
  rw [show part b p = ∅ from Finset.eq_empty_of_forall_notMem fun i hi => h i (mem_part.mp hi), pointsTo_empty]

/-- All is held where every block satisfies it. -/
theorem part_all (p : ℕ → Prop) [DecidablePred p] (h : ∀ i, p (b i)) : (ℓ ↦[part b p]{q} f : sProp 𝕄) = (ℓ ↦{q} f) := by
  rw [show part b p = Finset.univ from Finset.eq_univ_iff_forall.mpr fun i => mem_part.mpr (h i)]

/-- One more block. -/
theorem part_grow (p p' : ℕ → Prop) [DecidablePred p] [DecidablePred p'] (j : ℕ) (hj : ¬ p j)
    (h : ∀ i, p' (b i) ↔ (p (b i) ∨ b i = j)) :
    (iprop((ℓ ↦[part b p]{q} f) ∗ (ℓ ↦[part b (· = j)]{q} f)) : sProp 𝕄) ⊢ (ℓ ↦[part b p']{q} f) := by
  have hd : Disjoint (part b p) (part b (· = j)) :=
    Finset.disjoint_left.mpr fun i hi hi' => hj ((mem_part.mp hi') ▸ mem_part.mp hi)
  have hs : part b p' = part b p ∪ part b (· = j) := by
    ext i; rw [Finset.mem_union, mem_part, mem_part, mem_part]; exact h i
  rw [hs]
  exact (pointsTo_union hd).2

end Blocks

end Cert.Pieces

end
-- ==== Proof.KernelIdealSched.lean ====
/-
The kernel's messages as a schedule of rounds: every semaphore's one round, what each arrival hands over, and in which
order the buffers change hands.

Device `c` sends its rows of block `c + d` to device `c + d`, which receives them into the columns of block `32 - d` of its
row buffer; its own block goes to column block 0 by a local copy. The barrier makes the column blocks available: device
`c`'s signal number `d`, to device `c + d`, hands over column block `d` of `c`'s row buffer, into which that device sends.
Copies of the row blocks of `w` go to a buffer of the device's own, block `k` of which receives row block `k + c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import proofs.«01_k».proof.Proof.Pieces

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the messages' (duties numbered) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices -/

/-- The device `d` places after `c`. -/
def dv (c : Dev nD) (d : ℕ) : Dev nD := ⟨(c.val + d) % 32, Nat.mod_lt _ (by decide)⟩

/-- The number of the device `d` places on. -/
theorem dv_val (c : Dev nD) (d : ℕ) : (dv c d).val = (c.val + d) % 32 := rfl

/-- A device's number is below 32. -/
theorem lt32 (c : Dev nD) : c.val < 32 := c.isLt

/-- Going on `d` places and then `e` leads back if together they make a full round. -/
theorem dv_dv (c : Dev nD) (d e : ℕ) (h : (d + e) % 32 = 0) : dv (dv c d) e = c :=
  Fin.ext (by rw [dv_val, dv_val]; have := lt32 c; omega)

/-- The shift by `d` places, a permutation of the devices. -/
def shiftBy (d : ℕ) : Dev nD ≃ Dev nD :=
  ⟨fun c => dv c d, fun c => dv c (32 * d - d), fun c => dv_dv c _ _ (by omega), fun c => dv_dv c _ _ (by omega)⟩

/-! ## The memrefs and cells -/

abbrev xM : Memref sig .tc .vmem S4096x128 .f32 := Memref.whole cc0_stg0_0
abbrev oM : Memref sig .tc .vmem S128x2048 .f32 := Memref.whole cc0_stg1_0
abbrev wM : Memref sig .tc .hbm S4096x2048 .f32 := Memref.whole main_arg1
abbrev sM : Memref sig .tc .vmem S4096x128 .bf16 := Memref.whole cc0_scratch0
abbrev rM : Memref sig .tc .vmem S128x4096 .bf16 := Memref.whole cc0_scratch1
abbrev bM : Memref sig .tc .vmem S4096x2048 .f32 := Memref.whole cc0_scratch2

/-- Rows of block `c + d` of the send buffer, `d = r + 1`. -/
abbrev sendSl (c : Dev nD) (r : Fin 31) : Memref sig .tc .vmem S128x128 .bf16 :=
  sM.slice (Rect.unit (s := S4096x128) (k0_off3 c (BitVec.ofNat 32 (1 + r.val))) S128x128.size (k0_off3_inb c r)) (fun _ => rfl)
/-- Rows of block `c` of the send buffer. -/
abbrev diagSl (c : Dev nD) : Memref sig .tc .vmem S128x128 .bf16 :=
  sM.slice (Rect.unit (s := S4096x128) (k0_off2 c) S128x128.size (k0_off2_inb c)) (fun _ => rfl)
/-- Columns from `o` on of the row buffer. -/
abbrev colSl (o : ℕ) (h : ∀ a, (![0, o] : Fin 2 → ℕ) a + S128x128.size a ≤ S128x4096.size a) : Memref sig .tc .vmem S128x128 .bf16 :=
  rM.slice (Rect.unit (s := S128x4096) ![0, o] S128x128.size h) (fun _ => rfl)
/-- Row block `k + c` of `w`. -/
abbrev wSl (c : Dev nD) (r : Fin 32) : Memref sig .tc .hbm S128x2048 .f32 :=
  wM.slice (Rect.unit (s := S4096x2048) (k0_off1 c (BitVec.ofNat 32 r.val)) S128x2048.size (k0_off1_inb c r)) (fun _ => rfl)
/-- Rows from `o` on of the buffer for `w`. -/
abbrev rowSl (o : ℕ) (h : ∀ a, (![o, 0] : Fin 2 → ℕ) a + S128x2048.size a ≤ S4096x2048.size a) : Memref sig .tc .vmem S128x2048 .f32 :=
  bM.slice (Rect.unit (s := S4096x2048) ![o, 0] S128x2048.size h) (fun _ => rfl)

/-- The runtime's barrier semaphore. -/
abbrev barS : Sem sig := (SemArray.scalar (sig.barrier 0 rfl) : Sems sig S_).sem
/-- The DMA semaphore number `v`. -/
def dmaQ (v : ℕ) : DmaSem sig := Fin.ofNat 99 v
abbrev dmaS (v : ℕ) : SemLoc sig := .dma (dmaQ v)

/-- The number of a DMA semaphore. -/
theorem dmaQ_val (v : ℕ) (h : v < 99) : (dmaQ v).val = v := Nat.mod_eq_of_lt h

abbrev barCell (c : Dev nD) : GSem nD τ sig := ((c : Thread nD τ), .reg barS)
abbrev dmaCell (c : Dev nD) (v : ℕ) : GSem nD τ sig := ((c : Thread nD τ), dmaS v)
/-- Send number `d`'s semaphore; receive number `d`'s (number 32: the local copy's); that of the copy into block `k` of `w`. -/
abbrev sendCell (c : Dev nD) (d : ℕ) : GSem nD τ sig := dmaCell c (2 + d)
abbrev recvCell (c : Dev nD) (d : ℕ) : GSem nD τ sig := dmaCell c (34 + d)
abbrev wCell (c : Dev nD) (k : ℕ) : GSem nD τ sig := dmaCell c (67 + k)

/-- What a block of the row buffer, and one of the buffer for `w`, credits. -/
abbrev N1 : ℕ := (colSl 0 (by decide)).view.dmaCredit
abbrev N2 : ℕ := (rowSl 0 (by decide)).view.dmaCredit
/-- A block of the row buffer credits something. -/
theorem N1_pos : 0 < N1 := View.dmaCredit_pos _ (by decide)
/-- So does a block of the buffer for `w`. -/
theorem N2_pos : 0 < N2 := View.dmaCredit_pos _ (by decide)

/-! ## Contents -/

/-- An index of a matrix. -/
abbrev ix {S : Fin 2 → ℕ} (i : ℕ) (j : ℕ) (hi : i < S 0) (hj : j < S 1) : (⟨2, S⟩ : Shape).Idx :=
  fun a => match a with | ⟨0, _⟩ => ⟨i, hi⟩ | ⟨1, _⟩ => ⟨j, hj⟩

/-- The device's block of `x`. -/
def xstg (c : Dev nD) : (cc0_stg0_0 : Ref sig .tc).ty.Contents (Elt F) :=
  (win0_0.blk (0 : Fin 1)).view.read (Elt F) ((s₀ m ρ).mem ((c : Thread nD τ).loc main_arg0))

abbrev xL (c : Dev nD) : Loc nD τ sig := (c : Thread nD τ).loc cc0_stg0_0
abbrev oL (c : Dev nD) : Loc nD τ sig := (c : Thread nD τ).loc cc0_stg1_0
abbrev wL (c : Dev nD) : Loc nD τ sig := (c : Thread nD τ).loc main_arg1
abbrev sL (c : Dev nD) : Loc nD τ sig := (c : Thread nD τ).loc cc0_scratch0
abbrev rL (c : Dev nD) : Loc nD τ sig := (c : Thread nD τ).loc cc0_scratch1
abbrev bL (c : Dev nD) : Loc nD τ sig := (c : Thread nD τ).loc cc0_scratch2

/-- The send buffer: the device's block of `x`, rounded. -/
def sbuf (c : Dev nD) : S4096x128.Idx → Elt F .bf16 := k0_pay1 (xstg m ρ c)
/-- `w`, as the device holds it. -/
def wAt (c : Dev nD) : S4096x2048.Idx → Elt F .f32 := (s₀ m ρ).mem (wL c)

/-- The row of `x` that a row of the row buffer holds exists. -/
theorem rbuf_row (c : Dev nD) (i : S128x4096.Idx) : 128 * c.val + (i 0).val < 4096 := by
  have h0 : (i 0).val < 128 := (i 0).isLt
  have := lt32 c; omega

/-- The row buffer at the end: in column block `j`, the block for `c` of the send buffer of device `c + j`. -/
def rbuf (c : Dev nD) : S128x4096.Idx → Elt F .bf16 := fun i =>
  sbuf m ρ (dv c ((i 1).val / 128)) (ix (128 * c.val + (i 0).val) ((i 1).val % 128) (rbuf_row c i) (Nat.mod_lt _ (by decide)))

/-- The row of `w` that a row of its buffer holds exists. -/
theorem bbuf_row (c : Dev nD) (i : S4096x2048.Idx) : 128 * (((i 0).val / 128 + c.val) % 32) + (i 0).val % 128 < 4096 := by omega

/-- The buffer for `w` at the end: in row block `k`, row block `k + c` of `w`. -/
def bbuf (c : Dev nD) : S4096x2048.Idx → Elt F .f32 := fun i =>
  wAt m ρ c (ix (128 * (((i 0).val / 128 + c.val) % 32) + (i 0).val % 128) (i 1).val (bbuf_row c i) (i 1).isLt)

/-! ## Blocks held -/

/-- The column block of an element of the row buffer; the row block of one of the others. -/
abbrev colB (i : S128x4096.Idx) : ℕ := (i 1).val / 128
abbrev rowB (i : S4096x2048.Idx) : ℕ := (i 0).val / 128
abbrev rowS (i : S4096x128.Idx) : ℕ := (i 0).val / 128

/-- Column block `j` of `c`'s row buffer. -/
def rP (c : Dev nD) (j : ℕ) (f : S128x4096.Idx → Elt F .bf16) : sProp 𝕄 := rL c ↦[part colB (· = j)]{fullShare} f
/-- Row block `j` of `c`'s send buffer. -/
def sP (c : Dev nD) (j : ℕ) : sProp 𝕄 := sL c ↦[part rowS (· = j)]{fullShare} (sbuf m ρ c)
/-- Row block `k` of `c`'s buffer for `w`. -/
def bP (c : Dev nD) (k : ℕ) (f : S4096x2048.Idx → Elt F .f32) : sProp 𝕄 := bL c ↦[part rowB (· = k)]{fullShare} f
/-- Row block `j` of `w`. -/
def wP (c : Dev nD) (j : ℕ) : sProp 𝕄 := wL c ↦[part rowB (· = j)]{fullShare} (wAt m ρ c)

/-! ## The schedule -/

/-- What signal number `d`, from the device `d` places before `c`, hands `c`: column block `d` of that device. -/
def barPay (c : Dev nD) (d : ℕ) : sProp 𝕄 := iprop(∃ f, rP (dv c (32 - d)) d f)
def sendPay (c : Dev nD) (d : ℕ) : sProp 𝕄 := sP m ρ c ((c.val + d) % 32)
/-- The local copy gives its source back with its destination. -/
def diagBack (c : Dev nD) (d : ℕ) : sProp 𝕄 := if d = 32 then sP m ρ c c.val else iprop(emp)
def recvPay (c : Dev nD) (d : ℕ) : sProp 𝕄 := iprop(rP c (32 - d) (rbuf m ρ c) ∗ diagBack m ρ c d)
def wPay (c : Dev nD) (k : ℕ) : sProp 𝕄 := iprop(bP c k (bbuf m ρ c) ∗ wP m ρ c ((k + c.val) % 32))

/-- What the DMA semaphore number `v` hands over. -/
def dmaPay (c : Dev nD) (v : ℕ) : sProp 𝕄 :=
  if v < 34 then sendPay m ρ c (v - 2) else if v < 67 then recvPay m ρ c (v - 34) else wPay m ρ c (v - 67)

/-- The DMA semaphore's number, of a semaphore. -/
def dmaNo : SemLoc sig → ℕ | .dma q => q.val | .reg _ => 0

/-- The DMA semaphores that the kernel uses: sends 1 … 31, receives 1 … 31 and the local copy's, the 32 of `w`. -/
def Used (v : ℕ) : Prop := 2 < v ∧ v ≠ 34
instance : DecidablePred Used := fun v => inferInstanceAs (Decidable (2 < v ∧ v ≠ 34))

def rd : Rounds.Schedule (GSem nD τ sig) ℕ 𝕄 where
  duties g r := if r = 0 ∧ g.1.2 = .tc then (if g.2 = .reg barS then Finset.Ico 1 32 else if Used (dmaNo g.2) then {0} else ∅) else ∅
  unitless _ := False
  amount g _ _ := if g.2 = .reg barS then 1 else if dmaNo g.2 < 67 then N1 else N2
  payload g _ d := if g.2 = .reg barS then barPay g.1.1 d else dmaPay m ρ g.1.1 (dmaNo g.2)
  amount_pos g _ _ _ := by
    by_cases h : g.2 = .reg barS
    · rw [if_pos h]; exact Nat.one_pos
    · rw [if_neg h]; split
      · exact N1_pos
      · exact N2_pos

omit [FloatOps F] in
instance rP_storable (c : Dev nD) (j f) : BI.Storable (upEmb : UEmb _ 𝕄) (rP (F := F) c j f) := by unfold rP; infer_instance
instance sP_storable (c : Dev nD) (j) : BI.Storable (upEmb : UEmb _ 𝕄) (sP (F := F) m ρ c j) := by unfold sP; infer_instance
omit [FloatOps F] in
instance bP_storable (c : Dev nD) (j f) : BI.Storable (upEmb : UEmb _ 𝕄) (bP (F := F) c j f) := by unfold bP; infer_instance
omit [FloatOps F] in
instance wP_storable (c : Dev nD) (j) : BI.Storable (upEmb : UEmb _ 𝕄) (wP (F := F) m ρ c j) := by unfold wP; infer_instance

instance rd_payload_storable (g : GSem nD τ sig) (r : ℕ) (d : ℕ) : BI.Storable (upEmb : UEmb _ 𝕄) ((rd (F := F) m ρ).payload g r d) := by
  show BI.Storable upEmb (if g.2 = .reg barS then barPay g.1.1 d else dmaPay m ρ g.1.1 (dmaNo g.2))
  unfold dmaPay barPay recvPay sendPay wPay diagBack
  (repeat' split) <;> infer_instance

section Sched

variable (c : Dev nD)

/-- No DMA semaphore is the barrier. -/
theorem dma_ne_bar (v : ℕ) : (dmaS v : SemLoc sig) ≠ .reg barS := fun h => by cases h
/-- The number read back from a DMA semaphore. -/
theorem dmaNo_dmaS (v : ℕ) (h : v < 99) : dmaNo (dmaS v) = v := dmaQ_val v h

/-- The barrier's round has 31 duties, numbered from 1. -/
theorem duties_bar : (rd (F := F) m ρ).duties (barCell c) 0 = Finset.Ico 1 32 := by
  dsimp only [rd]; rw [if_pos ⟨rfl, rfl⟩, if_pos rfl]
/-- The round of a DMA semaphore that is used has one duty. -/
theorem duties_dma (v : ℕ) (h : v < 99) (hu : Used v) : (rd (F := F) m ρ).duties (dmaCell c v) 0 = {0} := by
  dsimp only [rd]; rw [if_pos ⟨rfl, rfl⟩, if_neg (dma_ne_bar v), dmaNo_dmaS v h, if_pos hu]
/-- One that is not used has none. -/
theorem duties_idle (v : ℕ) (h : v < 99) (hu : ¬ Used v) : ∀ r, 0 ≤ r → (rd (F := F) m ρ).duties (dmaCell c v) r = ∅ := fun r _ => by
  dsimp only [rd]; rw [if_neg (dma_ne_bar v), dmaNo_dmaS v h, if_neg hu, ite_self]
/-- There is no second round. -/
theorem duties_later (g : GSem nD τ sig) : ∀ r, 1 ≤ r → (rd (F := F) m ρ).duties g r = ∅ :=
  fun r hr => by dsimp only [rd]; rw [if_neg fun h => by omega]

/-- A signal pays one unit. -/
theorem amount_bar (d : ℕ) : (rd (F := F) m ρ).amount (barCell c) 0 d = 1 := by dsimp only [rd]; exact if_pos rfl
/-- A send or receive pays a row-buffer block's credit. -/
theorem amount_xfer (v : ℕ) (h : v < 67) (d : ℕ) : (rd (F := F) m ρ).amount (dmaCell c v) 0 d = N1 := by
  dsimp only [rd]; rw [if_neg (dma_ne_bar v), dmaNo_dmaS v (by omega), if_pos h]
/-- A copy of a row block of `w` pays its credit. -/
theorem amount_w (k : ℕ) (h : k < 32) (d : ℕ) : (rd (F := F) m ρ).amount (wCell c k) 0 d = N2 := by
  dsimp only [rd]; rw [if_neg (dma_ne_bar _), dmaNo_dmaS _ (by omega), if_neg (by omega)]

/-- The barrier waits for 31 units. -/
theorem expect_bar : (rd (F := F) m ρ).expect (barCell c) 0 = 31 := by
  unfold Schedule.expect Schedule.amountOf
  rw [duties_bar, Finset.sum_congr rfl fun d _ => amount_bar m ρ c d, Finset.sum_const, Nat.card_Ico, smul_eq_mul]
/-- A send or receive semaphore waits for one block's credit. -/
theorem expect_xfer (v : ℕ) (h : v < 67) (hu : Used v) : (rd (F := F) m ρ).expect (dmaCell c v) 0 = N1 := by
  unfold Schedule.expect Schedule.amountOf; rw [duties_dma m ρ c v (by omega) hu, Finset.sum_singleton, amount_xfer m ρ c v h]
/-- All semaphores of the copies of `w` are used. -/
theorem used_w (k : ℕ) : Used (67 + k) := ⟨by omega, by omega⟩
/-- Each waits for one row block's credit. -/
theorem expect_w (k : ℕ) (h : k < 32) : (rd (F := F) m ρ).expect (wCell c k) 0 = N2 := by
  unfold Schedule.expect Schedule.amountOf; rw [duties_dma m ρ c _ (by omega) (used_w k), Finset.sum_singleton, amount_w m ρ c k h]

/-- What signal number `d` hands over. -/
theorem payload_bar (d : ℕ) : (rd (F := F) m ρ).payload (barCell c) 0 d = barPay c d := by dsimp only [rd]; exact if_pos rfl
/-- What the duty of a DMA semaphore hands over. -/
theorem payload_dma (v : ℕ) (h : v < 99) (d : ℕ) : (rd (F := F) m ρ).payload (dmaCell c v) 0 d = dmaPay m ρ c v := by
  dsimp only [rd]; rw [if_neg (dma_ne_bar v), dmaNo_dmaS v h]
/-- At a send semaphore. -/
theorem payload_send (d : ℕ) (h : d < 32) (e : ℕ) : (rd (F := F) m ρ).payload (sendCell c d) 0 e = sendPay m ρ c d := by
  rw [payload_dma m ρ c _ (by omega)]; unfold dmaPay; rw [if_pos (by omega), Nat.add_sub_cancel_left]
/-- At a receive semaphore. -/
theorem payload_recv (d : ℕ) (h : d ≤ 32) (e : ℕ) : (rd (F := F) m ρ).payload (recvCell c d) 0 e = recvPay m ρ c d := by
  rw [payload_dma m ρ c _ (by omega)]; unfold dmaPay; rw [if_neg (by omega), if_pos (by omega), Nat.add_sub_cancel_left]
/-- At the semaphore of a copy of `w`. -/
theorem payload_w (k : ℕ) (h : k < 32) (e : ℕ) : (rd (F := F) m ρ).payload (wCell c k) 0 e = wPay m ρ c k := by
  rw [payload_dma m ρ c _ (by omega)]; unfold dmaPay; rw [if_neg (by omega), if_neg (by omega), Nat.add_sub_cancel_left]

/-- What the whole of a round hands over: the barrier's 31 column blocks, a DMA semaphore's one payload. -/
theorem rest_bar : bigSep ((rd (F := F) m ρ).duties (barCell c) 0 \ ∅) (fun d => (rd (F := F) m ρ).payload (barCell c) 0 d)
    = bigSep (Finset.Ico 1 32) fun d => barPay c d := by
  rw [Finset.sdiff_empty, duties_bar]; exact bigSep_congr fun d _ => payload_bar m ρ c d
/-- A wait on a DMA semaphore receives that one payload. -/
theorem rest_dma (v : ℕ) (h : v < 99) (hu : Used v) :
    bigSep ((rd (F := F) m ρ).duties (dmaCell c v) 0 \ ∅) (fun d => (rd (F := F) m ρ).payload (dmaCell c v) 0 d) = dmaPay m ρ c v := by
  rw [Finset.sdiff_empty, duties_dma m ρ c v h hu, bigSep_singleton, payload_dma m ρ c v h]

end Sched

/-! ## What each core owes at launch; the levels -/

/-- The credit of the sends from number `n` on, and the units of the signals from number `n` on. -/
def owedRecv (c : Dev nD) (n : ℕ) : CellTallies nD τ sig Unit := ∑ d ∈ Finset.Ico n 32, tallyAt (recvCell (dv c d) d) () N1
def owedBar (c : Dev nD) (n : ℕ) : CellTallies nD τ sig Unit := ∑ d ∈ Finset.Ico n 32, tallyAt (barCell (dv c d)) () 1
def O₀ (c : Dev nD) : CellTallies nD τ sig Unit := owedRecv c 1 + owedBar c 1

/-- The sends still owed, the next one taken out. -/
theorem owedRecv_first (c : Dev nD) (n : ℕ) (h : n < 32) : owedRecv c n = owedRecv c (n + 1) + tallyAt (recvCell (dv c n) n) () N1 :=
  sum_first _ h
/-- The signals still owed, the next one taken out. -/
theorem owedBar_first (c : Dev nD) (n : ℕ) (h : n < 32) : owedBar c n = owedBar c (n + 1) + tallyAt (barCell (dv c n)) () 1 :=
  sum_first _ h
/-- After the last send none is owed. -/
theorem owedRecv_none (c : Dev nD) : owedRecv c 32 = 0 := by unfold owedRecv; rw [Finset.Ico_self, Finset.sum_empty]
/-- After the last signal none is owed. -/
theorem owedBar_none (c : Dev nD) : owedBar c 32 = 0 := by unfold owedBar; rw [Finset.Ico_self, Finset.sum_empty]

def L (g : GSem nD τ sig) : Finset Unit := if g.1.2 = .tc then {()} else ∅
/-- barrier cells at 1, the cells of remote receives at 2, everything else at 0. -/
def lv (g : GSem nD τ sig) (_ : Unit) : ℕ :=
  if g.2 = .reg barS then 1 else if 34 ≤ dmaNo g.2 ∧ dmaNo g.2 < 66 then 2 else 0

/-- Cells off the TensorCore have no level. -/
theorem L_of_ne (g : GSem nD τ sig) (h : g.1.2 ≠ .tc) : L g = ∅ := if_neg h
/-- Cells of the TensorCore have one. -/
theorem L_tc (c : Dev nD) (sm : SemLoc sig) : L ((c : Thread nD τ), sm) = {()} := if_pos rfl
/-- Barrier cells are at level 1. -/
theorem lv_bar (c : Dev nD) : lv (barCell c) () = 1 := if_pos rfl
/-- Cells of remote receives are at level 2. -/
theorem lv_recv (c : Dev nD) (d : ℕ) (h : d < 32) : lv (recvCell c d) () = 2 := by
  unfold lv; rw [if_neg (dma_ne_bar _), dmaNo_dmaS _ (by omega), if_pos (by omega)]

/-- A sum of tallies owes somewhere only at a cell of one of them. -/
theorem sum_pos {g : GSem nD τ sig} {u : Unit} (s : Finset ℕ) (cell : ℕ → GSem nD τ sig) (n : ℕ)
    (h : 0 < (∑ d ∈ s, (tallyAt (cell d) () n : CellTallies nD τ sig Unit)) g u) : ∃ d ∈ s, g = cell d := by
  rw [Finset.sum_apply, Finsupp.finset_sum_apply] at h
  obtain ⟨d, hd, h0⟩ := Finset.exists_ne_zero_of_sum_ne_zero (Nat.pos_iff_ne_zero.mp h)
  refine ⟨d, hd, ?_⟩
  rw [tallyAt_apply] at h0
  by_contra hne
  exact h0 (if_neg fun h' => hne h'.1)

/-- A send is owed only to a receive cell. -/
theorem owedRecv_pos {c : Dev nD} {n : ℕ} {g : GSem nD τ sig} {u : Unit} (h : 0 < owedRecv c n g u) :
    ∃ d < 32, g = recvCell (dv c d) d := by
  obtain ⟨d, hd, e⟩ := sum_pos _ _ _ h
  exact ⟨d, (Finset.mem_Ico.mp hd).2, e⟩

/-- At launch something is owed only to receive cells and barrier cells. -/
theorem O₀_pos {c : Dev nD} {g : GSem nD τ sig} {u : Unit} (h : 0 < O₀ c g u) :
    (∃ d < 32, g = recvCell (dv c d) d) ∨ ∃ d, g = barCell (dv c d) := by
  unfold O₀ at h
  rw [Pi.add_apply, Finsupp.add_apply] at h
  rcases Nat.eq_zero_or_pos (owedRecv c 1 g u) with h0 | h0
  · rw [h0, Nat.zero_add] at h
    obtain ⟨d, -, e⟩ := sum_pos _ _ _ h
    exact Or.inr ⟨d, e⟩
  · exact Or.inl (owedRecv_pos h0)

omit [FloatOps F] in
/-- Waits on the pipeline's and the sends' semaphores are allowed while everything is still owed, and when nothing is. -/
theorem mayWait_stage (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, -, rfl⟩ | ⟨d, rfl⟩ <;> exact Finset.mem_singleton_self _)
      (fun p hp => by
        rw [Finset.mem_singleton.mp hp]; dsimp only [lv]
        rw [if_neg (fun h => by cases h), if_neg (fun h => by have := h.1; dsimp only [dmaNo] at this; omega)])
      (fun g u hg => by
        rcases O₀_pos hg with ⟨d, hd, rfl⟩ | ⟨d, rfl⟩
        · rw [lv_recv _ _ hd]; decide
        · rw [lv_bar]; decide)
  · rw [MayWait_zero]; iintro -; iempintro

omit [FloatOps F] in
/-- At its barrier wait a device owes the credit of its sends only: receive cells, above its barrier cell. -/
theorem mayWait_bar (c : Dev nD) : (levAts L lv : sProp 𝕄) ⊢ MayWait (c : Thread nD τ) (.reg barS) () (owedRecv c 1) :=
  MayOwe.of_cut (L := L) (lev := lv) 1 (fun p hp => by rw [Finset.mem_singleton.mp hp, L_tc]; exact Finset.mem_singleton_self _)
    (fun g u hg => by obtain ⟨d, -, rfl⟩ := owedRecv_pos hg; exact Finset.mem_singleton_self _)
    (fun p hp => by rw [Finset.mem_singleton.mp hp, lv_bar])
    (fun g u hg => by obtain ⟨d, hd, rfl⟩ := owedRecv_pos hg; rw [lv_recv _ _ hd]; decide)

end Cert.KernelIdealProof

end
-- ==== Proof.KernelIdealStepA.lean ====
/-
The kernel's slices and what its transfers leave; the states between the steps; the signal and the copies of `w`, one lemma per
kind: what a step needs of the lists a device works off, and what it leaves.
-/
module

public import proofs.«01_k».proof.Proof.KernelIdealSched
public import Idealize.ShloMosaic.Lib.Pipeline.Value

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slices' elements -/

section Sets

variable (c : Dev nD)

/-- The columns from `128 * j` on are column block `j`. -/
theorem col_set (o : ℕ) (h) (j : ℕ) (e : o = 128 * j) : (colSl o h).view.set = part colB (· = j) := by
  ext i
  rw [show (colSl o h).view.set = _ from View.set_slice_whole cc0_scratch1 _, Rect.mem_set_unit, mem_part]
  have h0 : (i 0).val < 128 := (i 0).isLt
  constructor
  · intro hi
    have h1 : o ≤ (i 1).val ∧ (i 1).val < o + 128 := hi 1
    show (i 1).val / 128 = j
    omega
  · intro hi
    have hi' : (i 1).val / 128 = j := hi
    intro a
    match a with
    | ⟨0, _⟩ => exact ⟨Nat.zero_le _, show (i 0).val < 0 + 128 by omega⟩
    | ⟨1, _⟩ => exact ⟨show o ≤ (i 1).val by omega, show (i 1).val < o + 128 by omega⟩

/-- The rows from `128 * j` on of the send buffer are its row block `j`. -/
theorem rowS_set (off : Fin 2 → ℕ) (h) (j : ℕ) (e : off = ![128 * j, 0]) :
    (sM.slice (Rect.unit (s := S4096x128) off S128x128.size h) (fun _ => rfl)).view.set = part rowS (· = j) := by
  subst e
  ext i
  rw [show (Memref.view _).set = _ from View.set_slice_whole cc0_scratch0 _, Rect.mem_set_unit, mem_part]
  have h0 : (i 1).val < 128 := (i 1).isLt
  constructor
  · intro hi
    have h1 : 128 * j ≤ (i 0).val ∧ (i 0).val < 128 * j + 128 := hi 0
    show (i 0).val / 128 = j
    omega
  · intro hi
    have hi' : (i 0).val / 128 = j := hi
    intro a
    match a with
    | ⟨0, _⟩ => exact ⟨show 128 * j ≤ (i 0).val by omega, show (i 0).val < 128 * j + 128 by omega⟩
    | ⟨1, _⟩ => exact ⟨Nat.zero_le _, show (i 1).val < 0 + 128 by omega⟩

/-- The same of a matrix of 4096 rows and 2048 columns. -/
theorem mem_row {off : Fin 2 → ℕ} {h} {j : ℕ} (e : off = ![128 * j, 0]) (i : S4096x2048.Idx) :
    i ∈ (Rect.unit (s := S4096x2048) off S128x2048.size h).set ↔ i ∈ part rowB (· = j) := by
  subst e
  rw [Rect.mem_set_unit, mem_part]
  have h0 : (i 1).val < 2048 := (i 1).isLt
  constructor
  · intro hi
    have h1 : 128 * j ≤ (i 0).val ∧ (i 0).val < 128 * j + 128 := hi 0
    show (i 0).val / 128 = j
    omega
  · intro hi
    have hi' : (i 0).val / 128 = j := hi
    intro a
    match a with
    | ⟨0, _⟩ => exact ⟨show 128 * j ≤ (i 0).val by omega, show (i 0).val < 128 * j + 128 by omega⟩
    | ⟨1, _⟩ => exact ⟨Nat.zero_le _, show (i 1).val < 0 + 2048 by omega⟩

/-- The indices of a row block of `w`. -/
theorem rowW_set (off : Fin 2 → ℕ) (h) (j : ℕ) (e : off = ![128 * j, 0]) :
    (wM.slice (Rect.unit (s := S4096x2048) off S128x2048.size h) (fun _ => rfl)).view.set = part rowB (· = j) := by
  ext i
  rw [show (Memref.view _).set = _ from View.set_slice_whole main_arg1 _]
  exact mem_row e i

/-- Those of a row block of its buffer. -/
theorem rowB_set (o : ℕ) (h) (j : ℕ) (e : o = 128 * j) : (rowSl o h).view.set = part rowB (· = j) := by
  ext i
  rw [show (Memref.view _).set = _ from View.set_slice_whole cc0_scratch2 _]
  exact mem_row (by rw [e]) i

end Sets

/-! ## What the transfers leave -/

section Landed

variable (c : Dev nD)

/-- Rows `128 * a` on of the send buffer, written to the columns from `128 * j` on: at an element of that column block. -/
theorem landed_col (off : Fin 2 → ℕ) (h) (a : ℕ) (e : off = ![128 * a, 0]) (ha : a < 32) (o : ℕ) (ho) (j : ℕ) (eo : o = 128 * j)
    (f : S128x4096.Idx → Elt F .bf16) (s : S4096x128.Idx → Elt F .bf16) (i : S128x4096.Idx) (hi : (i 1).val / 128 = j) :
    (colSl o ho).view.write (Elt F) f
      ((sM.slice (Rect.unit (s := S4096x128) off S128x128.size h) (fun _ => rfl)).view.read (Elt F) s) Finset.univ i
      = s (ix (128 * a + (i 0).val) ((i 1).val % 128) (by have h0 : (i 0).val < 128 := (i 0).isLt; show _ < 4096; omega) (Nat.mod_lt _ (by decide))) := by
  subst e
  have h0 : (i 0).val < 128 := (i 0).isLt
  rw [show (colSl o ho).view.write (Elt F) f _ Finset.univ = _ from View.write_whole_slice_unit cc0_scratch1 ![0, o] S128x128.size ho f _]
  unfold updateSlice
  rw [dif_pos (fun b => match b with
    | ⟨0, _⟩ => ⟨Nat.zero_le _, show (i 0).val < 0 + 128 by omega⟩
    | ⟨1, _⟩ => ⟨show o ≤ (i 1).val by omega, show (i 1).val < o + 128 by omega⟩)]
  rw [View.read_apply]
  show s _ = s _
  congr 1
  funext b
  apply Fin.ext
  match b with
  | ⟨0, _⟩ => show 128 * a + 1 * ((i 0).val - 0) = 128 * a + (i 0).val; omega
  | ⟨1, _⟩ => show 0 + 1 * ((i 1).val - o) = (i 1).val % 128; omega

/-- Rows `128 * a` on of `w`, written to the rows from `128 * k` on: at an element of that row block. -/
theorem landed_row (off : Fin 2 → ℕ) (h) (a : ℕ) (e : off = ![128 * a, 0]) (ha : a < 32) (o : ℕ) (ho) (k : ℕ) (eo : o = 128 * k)
    (f s : S4096x2048.Idx → Elt F .f32) (i : S4096x2048.Idx) (hi : (i 0).val / 128 = k) :
    (rowSl o ho).view.write (Elt F) f
      ((wM.slice (Rect.unit (s := S4096x2048) off S128x2048.size h) (fun _ => rfl)).view.read (Elt F) s) Finset.univ i
      = s (ix (128 * a + (i 0).val % 128) (i 1).val (by show _ < 4096; omega) (i 1).isLt) := by
  subst e
  have h0 : (i 1).val < 2048 := (i 1).isLt
  rw [show (rowSl o ho).view.write (Elt F) f _ Finset.univ = _ from View.write_whole_slice_unit cc0_scratch2 ![o, 0] S128x2048.size ho f _]
  unfold updateSlice
  rw [dif_pos (fun b => match b with
    | ⟨0, _⟩ => ⟨show o ≤ (i 0).val by omega, show (i 0).val < o + 128 by omega⟩
    | ⟨1, _⟩ => ⟨Nat.zero_le _, show (i 1).val < 0 + 2048 by omega⟩)]
  rw [View.read_apply]
  show s _ = s _
  congr 1
  funext b
  apply Fin.ext
  match b with
  | ⟨0, _⟩ => show 128 * a + 1 * ((i 0).val - o) = 128 * a + (i 0).val % 128; omega
  | ⟨1, _⟩ => show 0 + 1 * ((i 1).val - 0) = (i 1).val; omega

end Landed

/-- A copy into a column block pays that block's credit. -/
theorem amt_col (o : ℕ) (ho) (q : DmaSem sig) : (colSl o ho).view.amount (.dma q) = N1 := rfl
/-- A copy into a row block pays that block's credit. -/
theorem amt_row (o : ℕ) (ho) (q : DmaSem sig) : (rowSl o ho).view.amount (.dma q) = N2 := rfl

section Handed

variable (c : Dev nD)

/-- The blocks held, at the slices through which the transfers address them. -/
theorem sP_eq (off : Fin 2 → ℕ) (h) (j : ℕ) (e : off = ![128 * j, 0]) :
    (sP m ρ c j : sProp 𝕄) = ((sM.slice (Rect.unit (s := S4096x128) off S128x128.size h) (fun _ => rfl)).view.loc (c : Thread nD τ)
      ↦[(sM.slice (Rect.unit (s := S4096x128) off S128x128.size h) (fun _ => rfl)).view.set]{fullShare} (sbuf m ρ c)) := by
  unfold sP; exact congrArg (fun S => (sL c ↦[S]{fullShare} (sbuf m ρ c) : sProp 𝕄)) (rowS_set off h j e).symm
/-- A column block as a part of the row buffer is the slice that the kernel names. -/
theorem rP_eq (o : ℕ) (ho) (j : ℕ) (e : o = 128 * j) (f : S128x4096.Idx → Elt F .bf16) :
    (rP c j f : sProp 𝕄) = ((colSl o ho).view.loc (c : Thread nD τ) ↦[(colSl o ho).view.set]{fullShare} f) := by
  unfold rP; exact congrArg (fun S => (rL c ↦[S]{fullShare} f : sProp 𝕄)) (col_set o ho j e).symm
/-- The same of a row block of `w`. -/
theorem wP_eq (off : Fin 2 → ℕ) (h) (j : ℕ) (e : off = ![128 * j, 0]) :
    (wP m ρ c j : sProp 𝕄) = ((wM.slice (Rect.unit (s := S4096x2048) off S128x2048.size h) (fun _ => rfl)).view.loc (c : Thread nD τ)
      ↦[(wM.slice (Rect.unit (s := S4096x2048) off S128x2048.size h) (fun _ => rfl)).view.set]{fullShare} (wAt m ρ c)) := by
  unfold wP; exact congrArg (fun S => (wL c ↦[S]{fullShare} (wAt m ρ c) : sProp 𝕄)) (rowW_set off h j e).symm
/-- The same of a row block of its buffer. -/
theorem bP_eq (o : ℕ) (ho) (j : ℕ) (e : o = 128 * j) (f : S4096x2048.Idx → Elt F .f32) :
    (bP c j f : sProp 𝕄) = ((rowSl o ho).view.loc (c : Thread nD τ) ↦[(rowSl o ho).view.set]{fullShare} f) := by
  unfold bP; exact congrArg (fun S => (bL c ↦[S]{fullShare} f : sProp 𝕄)) (rowB_set o ho j e).symm

/-- The block that send number `d` brings to the device `d` places on is the final content of its column block `32 - d`; so is
the block that the local copy (`d = 32`) brings to column block 0. -/
theorem landed_recv (d : ℕ) (hd : 1 ≤ d ∧ d ≤ 32) (off : Fin 2 → ℕ) (h) (e : off = ![128 * ((c.val + d) % 32), 0]) (o : ℕ) (ho)
    (eo : o = 4096 - 128 * d) (f : S128x4096.Idx → Elt F .bf16) :
    ((colSl o ho).view.loc (dv c d : Thread nD τ) ↦[(colSl o ho).view.set]{fullShare}
        ((colSl o ho).view.write (Elt F) f ((sM.slice (Rect.unit (s := S4096x128) off S128x128.size h) (fun _ => rfl)).view.read (Elt F) (sbuf m ρ c)) Finset.univ))
      ⊢ (rP (dv c d) (32 - d) (rbuf m ρ (dv c d)) : sProp 𝕄) := by
  rw [← rP_eq (F := F) (dv c d) o ho (32 - d) (by omega)]
  unfold rP
  refine Entails.of_eq (pointsTo_congr fun i hi => ?_)
  have hi' : (i 1).val / 128 = 32 - d := (mem_part (b := colB) (p := (· = 32 - d))).mp hi
  refine (landed_col off h _ e (Nat.mod_lt _ (by decide)) o ho (32 - d) (by omega) f (sbuf m ρ c) i hi').trans ?_
  unfold rbuf
  have hc : dv (dv c d) ((i 1).val / 128) = c := by rw [hi']; exact dv_dv c d (32 - d) (by omega)
  exact (congrFun (congrArg (sbuf m ρ) hc) _).symm

/-- What copy number `k` of `w` brings is the final content of row block `k`. -/
theorem landed_w (k : ℕ) (off : Fin 2 → ℕ) (h) (e : off = ![128 * ((k + c.val) % 32), 0]) (o : ℕ) (ho)
    (eo : o = 128 * k) (f : S4096x2048.Idx → Elt F .f32) :
    ((rowSl o ho).view.loc (c : Thread nD τ) ↦[(rowSl o ho).view.set]{fullShare}
        ((rowSl o ho).view.write (Elt F) f ((wM.slice (Rect.unit (s := S4096x2048) off S128x2048.size h) (fun _ => rfl)).view.read (Elt F) (wAt m ρ c)) Finset.univ))
      ⊢ (bP c k (bbuf m ρ c) : sProp 𝕄) := by
  rw [← bP_eq (F := F) c o ho k eo]
  unfold bP
  refine Entails.of_eq (pointsTo_congr fun i hi => ?_)
  have hi' : (i 0).val / 128 = k := (mem_part (b := rowB) (p := (· = k))).mp hi
  refine (landed_row off h _ e (Nat.mod_lt _ (by decide)) o ho k eo f (wAt m ρ c) i hi').trans ?_
  unfold bbuf
  congr 1
  funext b
  apply Fin.ext
  match b with
  | ⟨0, _⟩ => show 128 * ((k + c.val) % 32) + _ = 128 * (((i 0).val / 128 + c.val) % 32) + _; rw [hi']
  | ⟨1, _⟩ => rfl

end Handed

/-! ## The records every step reads, and the states -/

/-- The kernel's cells of a device: the barrier's, then the DMA semaphores' from number 2 on. -/
def csem (k : Fin 98) : SemLoc sig := if k.val = 0 then .reg barS else dmaS (k.val + 1)
abbrev kcell (p : Dev nD × Fin 98) : GSem nD τ sig := ((p.1 : Thread nD τ), csem p.2)

/-- The place of a DMA semaphore in the list. -/
theorem csem_dma (v : ℕ) (h : 2 ≤ v) (h' : v < 99) : csem ⟨v - 1, by omega⟩ = dmaS v := by
  unfold csem; rw [if_neg (show ¬ v - 1 = 0 by omega)]; show dmaS (v - 1 + 1) = _; rw [show v - 1 + 1 = v by omega]

abbrev 𝒱₀ : Variants := Variants.none

variable (K : Dev nD × Fin 98 → ℕ)

/-- Every cell's invariant, every cell at its round 0 at least, and the levels: knowledge that is never used up. -/
def recs : sProp 𝕄 :=
  iprop((bigSep Finset.univ fun p : Dev nD × Fin 98 => cellInv ER (rd m ρ) (K p) (kcell p))
    ∗ (bigSep Finset.univ fun p : Dev nD × Fin 98 => reached ER (kcell p) 0) ∗ levAts L lv)

instance recs_persistent : BI.Persistent (recs m ρ K) := by unfold recs; infer_instance

section Recs

variable (c : Dev nD)

/-- The invariant of one cell, out of all. -/
theorem inv_at (p : Dev nD × Fin 98) :
    (bigSep Finset.univ fun p : Dev nD × Fin 98 => (cellInv ER (rd m ρ) (K p) (kcell p) : sProp 𝕄)) ⊢ cellInv ER (rd m ρ) (K p) (kcell p) :=
  bigSep_elim (Finset.mem_univ p)
omit [FloatOps F] in
/-- One cell's record of its first round, out of all. -/
theorem reached_at (p : Dev nD × Fin 98) :
    (bigSep Finset.univ fun p : Dev nD × Fin 98 => (reached ER (kcell p) 0 : sProp 𝕄)) ⊢ reached ER (kcell p) 0 :=
  bigSep_elim (Finset.mem_univ p)

/-- The records hold the invariant of every cell, -/
theorem recs_inv (p : Dev nD × Fin 98) : recs m ρ K ⊢ cellInv ER (rd m ρ) (K p) (kcell p) := by
  unfold recs; iintro ⟨#H, -, -⟩; iapply (inv_at m ρ K p); iexact H
/-- its first round, -/
theorem recs_reached (p : Dev nD × Fin 98) : recs m ρ K ⊢ reached ER (kcell p) 0 := by
  unfold recs; iintro ⟨-, #H, -⟩; iapply (reached_at (F := F) p); iexact H
/-- and the levels. -/
theorem recs_lev : recs m ρ K ⊢ (levAts L lv : sProp 𝕄) := by unfold recs; iintro ⟨-, -, #H⟩; iexact H

/-- The barrier cell's invariant. -/
theorem inv_bar : recs m ρ K ⊢ cellInv ER (rd m ρ) (K (c, 0)) (barCell c) := recs_inv m ρ K (c, 0)
/-- Its first round. -/
theorem reached_bar : recs m ρ K ⊢ reached ER (barCell c) 0 := recs_reached m ρ K (c, 0)
/-- The name of the invariant of DMA cell number `v`. -/
abbrev dmaName (v : ℕ) (h' : v < 99) : ℕ := K (c, ⟨v - 1, by omega⟩)
/-- A DMA cell's invariant. -/
theorem inv_dma (v : ℕ) (h : 2 ≤ v) (h' : v < 99) : recs m ρ K ⊢ cellInv ER (rd m ρ) (dmaName K c v h') (dmaCell c v) := by
  have := recs_inv m ρ K (c, ⟨v - 1, by omega⟩)
  unfold kcell at this; rwa [csem_dma v h h'] at this
/-- Its first round. -/
theorem reached_dma (v : ℕ) (h : 2 ≤ v) (h' : v < 99) : recs m ρ K ⊢ reached ER (dmaCell c v) 0 := by
  have := recs_reached m ρ K (c, ⟨v - 1, by omega⟩)
  unfold kcell at this; rwa [csem_dma v h h'] at this

end Recs

/-- What a device owes, whatever it has waited for. -/
def owesE (c : Dev nD) (O : CellTallies nD τ sig Unit) : sProp 𝕄 := iprop(∃ W, owes (c : Thread nD τ) O W)

/-- The program's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section States

variable (c : Dev nD)

/-- Signal number `d`, not yet sent: its duty, and the column block it hands over. -/
def sigItem (d : ℕ) : sProp 𝕄 := iprop(dutyTok ER (barCell (dv c d)) 0 d ∗ ∃ f, rP c d f)
/-- The signals from number `n` on are to be sent. -/
def Sig (n : ℕ) : sProp 𝕄 :=
  iprop(recs m ρ K ∗ owesE c (owedRecv c 1 + owedBar c n) ∗ bigSep (Finset.Ico n 32) (sigItem (F := F) c))

/-- The block of `w` that copy number `n` brings: the last four blocks first. -/
def ord (n : ℕ) : ℕ := 28 - 4 * (n / 4) + n % 4
/-- The order of the copies stays within the blocks. -/
theorem ord_lt (n : ℕ) (h : n < 32) : ord n < 32 := by unfold ord; omega
/-- It takes no block twice. -/
theorem ord_inj (i j : ℕ) (hi : i < 32) (hj : j < 32) (h : ord i = ord j) : i = j := by unfold ord at h; omega

/-- Copy number `n`, not yet started; and under way. -/
def cpyItem (n : ℕ) : sProp 𝕄 :=
  iprop(dutyTok ER (wCell c (ord n)) 0 0 ∗ (∃ f, bP c (ord n) f) ∗ wP m ρ c ((ord n + c.val) % 32))
def cpyCred (n : ℕ) : sProp 𝕄 := cred (tallyAt (wCell c (ord n)) () N2)
/-- The copies from number `n` on are to be started. -/
def Cpy (n : ℕ) : sProp 𝕄 :=
  iprop(recs m ρ K ∗ bigSep (Finset.Ico n 32) (cpyItem m ρ c) ∗ bigSep (Finset.Ico 0 n) (cpyCred (F := F) c))

/-- Send number `d`, not yet started: its two duties, the rows it reads and the columns that it writes; and under way. -/
def sndItem (d : ℕ) : sProp 𝕄 :=
  iprop(dutyTok ER (sendCell c d) 0 0 ∗ dutyTok ER (recvCell (dv c d) d) 0 0 ∗ sP m ρ c ((c.val + d) % 32) ∗ ∃ f, rP (dv c d) (32 - d) f)
def sndCred (d : ℕ) : sProp 𝕄 := cred (tallyAt (sendCell c d) () N1)
/-- The sends from number `n` on are to be started. -/
def Snd (n : ℕ) : sProp 𝕄 :=
  iprop(recs m ρ K ∗ owesE c (owedRecv c n) ∗ bigSep (Finset.Ico n 32) (sndItem m ρ c) ∗ bigSep (Finset.Ico 1 n) (sndCred (F := F) c))

/-- A DMA cell's one round before its wait, with the credit that pays for it; and after. -/
def before (v N : ℕ) : sProp 𝕄 := iprop(cred (tallyAt (dmaCell c v) () N) ∗ atPos ER (dmaCell c v) 0 ∅ 0)
def after (v : ℕ) : sProp 𝕄 := atPos ER (dmaCell c v) 1 ∅ 0

/-- The column blocks of the row buffer received by waits 1 … `d - 1`; the blocks of `w` brought by copies 0 … `n - 1`. -/
abbrev gotCol (d : ℕ) : ℕ → Prop := fun j => 32 < d + j
abbrev gotRow (n : ℕ) : ℕ → Prop := fun k => 4 * (7 - k / 4) + k % 4 < n

/-- Receives 1 … `d - 1` and copies 0 … `n - 1` have been waited for. -/
def Get (d n : ℕ) : sProp 𝕄 :=
  iprop(recs m ρ K ∗ owesE c 0
    ∗ ((rL c ↦[part colB (gotCol d)]{fullShare} (rbuf m ρ c))
      ∗ bigSep (Finset.Ico 1 d) (fun e => iprop(diagBack m ρ c e ∗ after (F := F) c (34 + e)))
      ∗ bigSep (Finset.Ico d 33) (fun e => before (F := F) c (34 + e) N1))
    ∗ ((bL c ↦[part rowB (gotRow n)]{fullShare} (bbuf m ρ c))
      ∗ bigSep (Finset.Ico 0 n) (fun e => iprop(wP m ρ c ((ord e + c.val) % 32) ∗ after (F := F) c (67 + ord e)))
      ∗ bigSep (Finset.Ico n 32) (fun e => before (F := F) c (67 + ord e) N2)))

/-- Sends 1 … `d - 1` have been waited for. -/
def Don (d : ℕ) : sProp 𝕄 :=
  iprop(recs m ρ K ∗ owesE c 0
    ∗ bigSep (Finset.Ico 1 d) (fun e => iprop(sP m ρ c ((c.val + e) % 32) ∗ after (F := F) c (2 + e)))
    ∗ bigSep (Finset.Ico d 32) (fun e => before (F := F) c (2 + e) N1))

end States

/-! ## The steps -/

section Steps

variable (c : Dev nD) {α : Type} {Q : α → sProp (MT nD τ sig Unit (Elt F) ℕ UU ℕ)} {k : PUnit → Prog (TpuEff nD τ sig (Elt F) Λ₀ .tc) α}
  {X : sProp (MT nD τ sig Unit (Elt F) ℕ UU ℕ)}

/-- A signal: number `n`, to the device `n` places on. -/
theorem step_sig {n : ℕ} (hn : 1 ≤ n ∧ n < 32) {dst : Dev nD} (hdst : dst.val = (c.val + n) % 32)
    (h : iprop(Sig m ρ K c (n + 1) ∗ X) ⊢ WP c (k ⟨⟩) Q) :
    iprop(Sig m ρ K c n ∗ X) ⊢ WP c (.op (.semSignal (Dev.tc dst : Thread nD τ) barS 1) k) Q := by
  obtain rfl : dst = dv c n := Fin.ext hdst
  unfold Sig at h ⊢
  rw [ico_first hn.2]
  unfold sigItem owesE at h ⊢
  iintro ⟨⟨#HR, ⟨%W, HO⟩, ⟨Ht, Hp⟩, Hs⟩, HX⟩
  iapply (Rounds.wp_signal 𝒱₀ ER (rd m ρ) (c : Thread nD τ) none (dst := (dv c n : Thread nD τ)) (κ := K (dv c n, 0))
      (d := n) (by rw [duties_bar]; exact Finset.mem_Ico.mpr hn) (amount_bar m ρ (dv c n) n) () (O₀ := owedRecv c 1 + owedBar c n)
      (owedRecv c 1 + owedBar c (n + 1))
      (by rw [owedBar_first c n hn.2, add_assoc])) $$ [HO Ht Hp]
  · isplitr; · iapply (inv_bar m ρ K (dv c n)); iexact HR
    isplitl [HO]; · iexact HO
    isplitl [Ht]; · iexact Ht
    isplitl [Hp]
    · rw [payload_bar]; unfold barPay; rw [dv_dv c n (32 - n) (by omega)]; iexact Hp
    · iapply (reached_bar m ρ K (dv c n)); iexact HR
  iintro HO
  iapply h
  isplitl [HO Hs]
  · isplitr; · iexact HR
    isplitl [HO]; · iexists W; iexact HO
    iexact Hs
  · iexact HX

/-- A copy of a row block of `w`: number `n`. -/
theorem step_cpy {n : ℕ} (hn : n < 32) {src : Memref sig .tc .hbm S128x2048 .f32} {dst : Memref sig .tc .vmem S128x2048 .f32} {q : DmaSem sig}
    (hsrc : src = wSl c ⟨ord n, ord_lt n hn⟩) (o : ℕ) (ho) (hdst : dst = rowSl o ho) (eo : o = 128 * ord n) (hq : q = dmaQ (67 + ord n))
    {h1 : src.view.WordExact} {h2 : dst.view.WordExact} {h3 : (DmaTarget.here dst : DmaTarget nD τ sig (Proc.tc : Proc τ) .vmem S128x2048 .f32).Typed .hbm (.dma q)}
    (h : iprop(Cpy m ρ K c (n + 1) ∗ X) ⊢ WP c (k ⟨⟩) Q) :
    iprop(Cpy m ρ K c n ∗ X) ⊢ WP c (.op (.enqueueDma src (.here dst) (.dma q) h1 h2 h3) k) Q := by
  subst hsrc hdst hq
  have hk := ord_lt n hn
  have hoff := k0_off1_eq c ⟨ord n, hk⟩
  have hpay : ∀ f : S4096x2048.Idx → Elt F .f32, iprop(((rowSl o ho).view.loc (c : Thread nD τ) ↦[(rowSl o ho).view.set]{fullShare}
        ((rowSl o ho).view.write (Elt F) f ((wSl c ⟨ord n, hk⟩).view.read (Elt F) (wAt m ρ c)) Finset.univ))
      ∗ ((wSl c ⟨ord n, hk⟩).view.loc (c : Thread nD τ) ↦[(wSl c ⟨ord n, hk⟩).view.set]{fullShare} (wAt m ρ c)))
      ⊢ (rd m ρ).payload (wCell c (ord n)) 0 0 := by
    intro f
    rw [payload_w m ρ c _ hk, ← wP_eq m ρ c _ (k0_off1_inb c ⟨ord n, hk⟩) _ hoff]
    exact sep_mono_left (landed_w m ρ c (ord n) _ _ hoff o ho eo _)
  unfold Cpy at h ⊢
  rw [ico_first hn]
  rw [ico_last (Nat.zero_le n)] at h
  unfold cpyItem cpyCred at h ⊢
  iintro ⟨⟨#HR, ⟨⟨Ht, ⟨%f, Hb⟩, Hw⟩, Hs⟩, Hc⟩, HX⟩
  ihave Hb' := (Entails.of_eq (bP_eq (F := F) c o ho (ord n) eo f)) $$ Hb
  ihave Hw' := (Entails.of_eq (wP_eq m ρ c _ (k0_off1_inb c ⟨ord n, hk⟩) _ hoff)) $$ Hw
  iapply (Rounds.wp_copy_pointsTo 𝒱₀ ER (rd m ρ) (c : Thread nD τ) none (κ := dmaName K c (67 + ord n) (by omega))
      (r := 0) (d := 0) (by rw [duties_dma m ρ c _ (by omega) (used_w _)]; exact Finset.mem_singleton_self _) () N2 (amt_row o ho _)
      (amount_w m ρ c _ hk 0) (hpay f)) $$ [Ht Hb' Hw']
  · isplitr; · iapply (inv_dma m ρ K c (67 + ord n) (by omega) _); iexact HR
    isplitl [Hw']; · iexact Hw'
    isplitl [Hb']; · iexact Hb'
    isplitl [Ht]; · iexact Ht
    iapply (reached_dma m ρ K c (67 + ord n) (by omega) (by omega)); iexact HR
  iintro Hc'
  iapply h
  isplitl [Hs Hc Hc']
  · isplitr; · iexact HR
    isplitl [Hs]; · iexact Hs
    isplitl [Hc']; · iexact Hc'
    iexact Hc
  · iexact HX

end Steps
end Cert.KernelIdealProof
end
-- ==== Proof.KernelIdealStepB.lean ====
/-
The kernel's sends: what a send needs of the lists a device works off, and what it leaves.
-/
module

public import proofs.«01_k».proof.Proof.KernelIdealStepA
public import Idealize.ShloMosaic.Lib.Pipeline.Value

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 98 → ℕ)
variable (c : Dev nD) {α : Type} {Q : α → sProp (MT nD τ sig Unit (Elt F) ℕ UU ℕ)} {k : PUnit → Prog (TpuEff nD τ sig (Elt F) Λ₀ .tc) α}
  {X : sProp (MT nD τ sig Unit (Elt F) ℕ UU ℕ)}

/-- The library's rule for a send, at this kernel's slices. -/
theorem send_at {n : ℕ} (hn : 1 ≤ n ∧ n < 32) (hr : n - 1 < 31) (o : ℕ) (ho) (f : S128x4096.Idx → Elt F .bf16) (W : Waits sig Unit)
    (hpay₁ : ((sendSl c ⟨n - 1, hr⟩).view.loc (c : Thread nD τ) ↦[(sendSl c ⟨n - 1, hr⟩).view.set]{fullShare} (sbuf m ρ c))
      ⊢ (rd m ρ).payload (sendCell c n) 0 0)
    (hpay₂ : ((colSl o ho).view.loc (dv c n : Thread nD τ) ↦[(colSl o ho).view.set]{fullShare}
        ((colSl o ho).view.write (Elt F) f ((sendSl c ⟨n - 1, hr⟩).view.read (Elt F) (sbuf m ρ c)) Finset.univ))
      ⊢ (rd m ρ).payload (recvCell (dv c n) n) 0 0)
    {hsc : (colSl o ho : Memref sig (Dev.tc (dv c n) : Thread nD τ).2.kind .vmem S128x128 .bf16).view.ref.isScScratch = false}
    {h1 : (sendSl c ⟨n - 1, hr⟩).view.WordExact} {h2 : (colSl o ho).view.WordExact}
    {h3 : DmaTarget.Typed .vmem (.dma (dmaQ (34 + n)))
      (.remote (Dev.tc (dv c n) : Thread nD τ) (colSl o ho : Memref sig (Dev.tc (dv c n) : Thread nD τ).2.kind .vmem S128x128 .bf16) (.dma (dmaQ (2 + n))) hsc)} :
    iprop(cellInv ER (rd m ρ) (dmaName K c (2 + n) (by omega)) (sendCell c n)
        ∗ cellInv ER (rd m ρ) (dmaName K (dv c n) (34 + n) (by omega)) (recvCell (dv c n) n)
        ∗ ((sendSl c ⟨n - 1, hr⟩).view.loc (c : Thread nD τ) ↦[(sendSl c ⟨n - 1, hr⟩).view.set]{fullShare} (sbuf m ρ c))
        ∗ ((colSl o ho).view.loc (dv c n : Thread nD τ) ↦[(colSl o ho).view.set]{fullShare} f)
        ∗ owes (c : Thread nD τ) (owedRecv c n) W
        ∗ dutyTok ER (sendCell c n) 0 0 ∗ reached ER (sendCell c n) 0
        ∗ dutyTok ER (recvCell (dv c n) n) 0 0 ∗ reached ER (recvCell (dv c n) n) 0)
      ⊢ iprop(((cred (tallyAt (sendCell c n) () N1) ∗ owes (c : Thread nD τ) (owedRecv c (n + 1)) W) -∗ WP c (k ⟨⟩) Q)
          -∗ WP c (.op (.enqueueDma (sendSl c ⟨n - 1, hr⟩) (.remote (Dev.tc (dv c n) : Thread nD τ)
              (colSl o ho : Memref sig (Dev.tc (dv c n) : Thread nD τ).2.kind .vmem S128x128 .bf16) (.dma (dmaQ (2 + n))) hsc) (.dma (dmaQ (34 + n))) h1 h2 h3) k) Q) :=
  Rounds.wp_send_pointsTo 𝒱₀ ER (rd m ρ) (c : Thread nD τ) none
    (r₁ := 0) (r₂ := 0) (d₁ := 0) (d₂ := 0) (fd := f)
    (by rw [duties_dma m ρ c _ (by omega) ⟨by omega, by omega⟩]; exact Finset.mem_singleton_self _)
    (by rw [duties_dma m ρ (dv c n) _ (by omega) ⟨by omega, by omega⟩]; exact Finset.mem_singleton_self _)
    () () N1 (amt_col o ho _) (amount_xfer m ρ c _ (by omega) 0) (amount_xfer m ρ (dv c n) _ (by omega) 0) (owedRecv c (n + 1)) (owedRecv_first c n hn.2)
    hpay₁ hpay₂

/-- A send: number `n`, to the device `n` places on. -/
theorem step_snd {n : ℕ} (hn : 1 ≤ n ∧ n < 32) {p : Dev nD} (hp : p.val = (c.val + n) % 32)
    {src : Memref sig .tc .vmem S128x128 .bf16} (hsrc : src = sendSl c ⟨n - 1, by omega⟩)
    (o : ℕ) (ho) {dst : Memref sig (Dev.tc p : Thread nD τ).2.kind .vmem S128x128 .bf16} (hdst : dst = colSl o ho) (eo : o = 4096 - 128 * n)
    {q q' : DmaSem sig} (hq : q = dmaQ (2 + n)) (hq' : q' = dmaQ (34 + n)) {hsc : dst.view.ref.isScScratch = false}
    {h1 : src.view.WordExact} {h2 : dst.view.WordExact} {h3 : DmaTarget.Typed .vmem (.dma q') (.remote (Dev.tc p : Thread nD τ) dst (.dma q) hsc)}
    (h : iprop(Snd m ρ K c (n + 1) ∗ X) ⊢ WP c (k ⟨⟩) Q) :
    iprop(Snd m ρ K c n ∗ X) ⊢ WP c (.op (.enqueueDma src (.remote (Dev.tc p : Thread nD τ) dst (.dma q) hsc) (.dma q') h1 h2 h3) k) Q := by
  obtain rfl : p = dv c n := Fin.ext hp
  subst hsrc hdst hq hq'
  have hoff : k0_off3 c (BitVec.ofNat 32 (1 + (n - 1))) = ![128 * ((c.val + n) % 32), 0] := by
    rw [show (c.val + n) % 32 = (c.val + (n - 1) + 1) % 32 from by rw [show c.val + n = c.val + (n - 1) + 1 by omega]]
    exact k0_off3_eq c ⟨n - 1, by omega⟩
  have hr : n - 1 < 31 := by omega
  have hu : Used (2 + n) := ⟨by omega, by omega⟩
  have hu' : Used (34 + n) := ⟨by omega, by omega⟩
  have hpay₁ : ((sendSl c ⟨n - 1, hr⟩).view.loc (c : Thread nD τ) ↦[(sendSl c ⟨n - 1, hr⟩).view.set]{fullShare} (sbuf m ρ c))
      ⊢ (rd m ρ).payload (sendCell c n) 0 0 := by
    rw [payload_send m ρ c n hn.2]
    exact Entails.of_eq (sP_eq m ρ c _ (k0_off3_inb c ⟨n - 1, hr⟩) _ hoff).symm
  have hpay₂ : ∀ f : S128x4096.Idx → Elt F .bf16, ((colSl o ho).view.loc (dv c n : Thread nD τ) ↦[(colSl o ho).view.set]{fullShare}
        ((colSl o ho).view.write (Elt F) f ((sendSl c ⟨n - 1, hr⟩).view.read (Elt F) (sbuf m ρ c)) Finset.univ))
      ⊢ (rd m ρ).payload (recvCell (dv c n) n) 0 0 := by
    intro f
    rw [payload_recv m ρ _ n (by omega)]; unfold recvPay diagBack
    rw [if_neg (by omega)]
    exact (landed_recv m ρ c n (by omega) _ (k0_off3_inb c ⟨n - 1, hr⟩) hoff o ho eo f).trans (Laws.sep_emp (PROP := sProp 𝕄)).2
  unfold Snd at h ⊢
  rw [ico_first hn.2]
  rw [ico_last hn.1] at h
  unfold sndItem sndCred owesE at h ⊢
  iintro ⟨⟨#HR, ⟨%W, HO⟩, ⟨⟨Ht, Ht', Hs, ⟨%f, Hr⟩⟩, Hss⟩, Hc⟩, HX⟩
  ihave Hr' := (Entails.of_eq (rP_eq (F := F) (dv c n) o ho (32 - n) (by omega) f)) $$ Hr
  ihave Hs' := (Entails.of_eq (sP_eq m ρ c _ (k0_off3_inb c ⟨n - 1, hr⟩) _ hoff)) $$ Hs
  iapply (send_at m ρ K c hn hr o ho f W hpay₁ (hpay₂ f)) $$ [Ht Ht' Hs' Hr' HO]
  · isplitr; · iapply (inv_dma m ρ K c (2 + n) (by omega) _); iexact HR
    isplitr; · iapply (inv_dma m ρ K (dv c n) (34 + n) (by omega) _); iexact HR
    isplitl [Hs']; · iexact Hs'
    isplitl [Hr']; · iexact Hr'
    isplitl [HO]; · iexact HO
    isplitl [Ht]; · iexact Ht
    isplitr; · iapply (reached_dma m ρ K c (2 + n) (by omega) (by omega)); iexact HR
    isplitl [Ht']; · iexact Ht'
    iapply (reached_dma m ρ K (dv c n) (34 + n) (by omega) (by omega)); iexact HR
  iintro ⟨Hc', HO⟩
  iapply h
  isplitl [Hss Hc Hc' HO]
  · isplitr; · iexact HR
    isplitl [HO]; · iexists W; iexact HO
    isplitl [Hss]; · iexact Hss
    isplitl [Hc']; · iexact Hc'
    iexact Hc
  · iexact HX

end Cert.KernelIdealProof
end
-- ==== Proof.KernelIdealStepC.lean ====
/-
The kernel's waits and loads, one lemma per kind.
-/
module

public import proofs.«01_k».proof.Proof.KernelIdealStepB
public import Idealize.ShloMosaic.Lib.Pipeline.Value

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 98 → ℕ)

section Steps

variable (c : Dev nD) {α : Type} {Q : α → sProp (MT nD τ sig Unit (Elt F) ℕ UU ℕ)} {k : PUnit → Prog (TpuEff nD τ sig (Elt F) Λ₀ .tc) α}
  {X : sProp (MT nD τ sig Unit (Elt F) ℕ UU ℕ)}

/-- A wait on a DMA cell, nothing owed: the round's payload is the device's. -/
theorem wait_dma (v N : ℕ) (hv : Used v) (hv' : v < 99) (hN : (rd (F := F) m ρ).expect (dmaCell c v) 0 = N)
    {sp sp' : Space} {s s' : Shape} {e e' : EltTy} {q : DmaSem sig} (hq : q = dmaQ v) {src : Memref sig .tc sp' s' e'} {dst : Memref sig .tc sp s e}
    (hd : dst.view.dmaCredit = N) {h1 : src.view.WordExact} {h2 : dst.view.WordExact} :
    iprop(recs m ρ K ∗ owesE (F := F) c 0 ∗ before (F := F) c v N)
      ⊢ iprop(((owesE (F := F) c 0 ∗ after (F := F) c v ∗ dmaPay m ρ c v) -∗ WP c (k ⟨⟩) Q)
        -∗ WP c (.op (.waitDma2 q src dst h1 h2) k) Q) := by
  subst hq
  unfold before after owesE
  iintro ⟨#HR, ⟨%W, HO⟩, Hc, Hat⟩ Hk
  rw [← hd]
  iapply (Rounds.wp_wait_rest_token 𝒱₀ ER (rd m ρ) (c : Thread nD τ) none (κ := dmaName K c v hv')
      (wpE_waitDma2_eq 𝒱₀ (c : Thread nD τ) none Set.univ) (Set.mem_univ _) () (O := 0) (W := W) (R := 0) (m := 0) (T := ∅)
      (by rw [Nat.zero_add, hd, hN])) $$ [Hc HO Hat]
  · isplitr; · iapply (inv_dma m ρ K c v (by have := hv.1; omega) hv'); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_dma m ρ c v hv' hv)); iexact Hpay

/-- A wait for the receive number `d` (number 32: the local copy). -/
theorem step_rcv {d n : ℕ} (hd : 1 ≤ d ∧ d < 33) {sp sp' : Space} {s s' : Shape} {e e' : EltTy} {q : DmaSem sig} (hq : q = dmaQ (34 + d))
    {src : Memref sig .tc sp' s' e'} {dst : Memref sig .tc sp s e} (hN : dst.view.dmaCredit = N1) {h1 : src.view.WordExact} {h2 : dst.view.WordExact}
    (h : iprop(Get m ρ K c (d + 1) n ∗ X) ⊢ WP c (k ⟨⟩) Q) :
    iprop(Get m ρ K c d n ∗ X) ⊢ WP c (.op (.waitDma2 q src dst h1 h2) k) Q := by
  have hu : Used (34 + d) := ⟨by omega, by omega⟩
  unfold Get at h ⊢
  rw [ico_first hd.2]
  rw [ico_last hd.1] at h
  iintro ⟨⟨#HR, HO, ⟨Hr, Hd, Hb, Hbs⟩, HW⟩, HX⟩
  iapply (wait_dma m ρ K c (34 + d) N1 hu (by omega) (expect_xfer m ρ c _ (by omega) hu) hq hN) $$ [HO Hb]
  · isplitr; · iexact HR
    isplitl [HO]; · iexact HO
    iexact Hb
  iintro ⟨HO, Ha, Hp⟩
  ihave Hp' := (Entails.of_eq ((payload_dma m ρ c (34 + d) (by omega) 0).symm.trans (payload_recv m ρ c d (by omega) 0))) $$ Hp
  unfold recvPay rP
  icases Hp' with ⟨Hr', Hd'⟩
  iapply h
  isplitr [HX]
  · isplitr; · iexact HR
    isplitl [HO]; · iexact HO
    isplitr [HW]
    · isplitl [Hr Hr']
      · iapply (part_grow colB (gotCol d) (gotCol (d + 1)) (32 - d) (by dsimp only [gotCol]; omega) (fun i => by
          have h1 : (i 1).val < 4096 := (i 1).isLt
          dsimp only [gotCol, colB]; omega))
        isplitl [Hr]; · iexact Hr
        iexact Hr'
      isplitr [Hbs]
      · isplitl [Hd' Ha]
        · isplitl [Hd']; · iexact Hd'
          iexact Ha
        · iexact Hd
      · iexact Hbs
    · iexact HW
  · iexact HX

/-- A wait for the copy number `n` of `w`. -/
theorem step_got {d n : ℕ} (hn : n < 32) {sp sp' : Space} {s s' : Shape} {e e' : EltTy} {q : DmaSem sig} (hq : q = dmaQ (67 + ord n))
    {src : Memref sig .tc sp' s' e'} {dst : Memref sig .tc sp s e} (hN : dst.view.dmaCredit = N2) {h1 : src.view.WordExact} {h2 : dst.view.WordExact}
    (h : iprop(Get m ρ K c d (n + 1) ∗ X) ⊢ WP c (k ⟨⟩) Q) :
    iprop(Get m ρ K c d n ∗ X) ⊢ WP c (.op (.waitDma2 q src dst h1 h2) k) Q := by
  have ho := ord_lt n hn
  unfold Get at h ⊢
  rw [ico_first hn]
  rw [ico_last (Nat.zero_le n)] at h
  iintro ⟨⟨#HR, HO, HC, Hr, Hd, Hb, Hbs⟩, HX⟩
  iapply (wait_dma m ρ K c (67 + ord n) N2 (used_w _) (by omega) (expect_w m ρ c _ ho) hq hN) $$ [HO Hb]
  · isplitr; · iexact HR
    isplitl [HO]; · iexact HO
    iexact Hb
  iintro ⟨HO, Ha, Hp⟩
  ihave Hp' := (Entails.of_eq ((payload_dma m ρ c (67 + ord n) (by omega) 0).symm.trans (payload_w m ρ c (ord n) ho 0))) $$ Hp
  unfold wPay bP
  icases Hp' with ⟨Hr', Hd'⟩
  iapply h
  isplitr [HX]
  · isplitr; · iexact HR
    isplitl [HO]; · iexact HO
    isplitl [HC]; · iexact HC
    isplitl [Hr Hr']
    · iapply (part_grow rowB (gotRow n) (gotRow (n + 1)) (ord n) (by dsimp only [gotRow]; unfold ord; omega) (fun i => by
        have h1 : (i 0).val < 4096 := (i 0).isLt
        dsimp only [gotRow, rowB]; unfold ord; omega))
      isplitl [Hr]; · iexact Hr
      iexact Hr'
    isplitr [Hbs]
    · isplitl [Hd' Ha]
      · isplitl [Hd']; · iexact Hd'
        iexact Ha
      · iexact Hd
    · iexact Hbs
  · iexact HX

/-- A wait for the send number `d`. -/
theorem step_fin {d : ℕ} (hd : 1 ≤ d ∧ d < 32) {sp sp' : Space} {s s' : Shape} {e e' : EltTy} {q : DmaSem sig} (hq : q = dmaQ (2 + d))
    {src : Memref sig .tc sp' s' e'} {dst : Memref sig .tc sp s e} (hN : dst.view.dmaCredit = N1) {h1 : src.view.WordExact} {h2 : dst.view.WordExact}
    (h : iprop(Don m ρ K c (d + 1) ∗ X) ⊢ WP c (k ⟨⟩) Q) :
    iprop(Don m ρ K c d ∗ X) ⊢ WP c (.op (.waitDma2 q src dst h1 h2) k) Q := by
  have hu : Used (2 + d) := ⟨by omega, by omega⟩
  unfold Don at h ⊢
  rw [ico_first hd.2]
  rw [ico_last hd.1] at h
  iintro ⟨⟨#HR, HO, Hd, Hb, Hbs⟩, HX⟩
  iapply (wait_dma m ρ K c (2 + d) N1 hu (by omega) (expect_xfer m ρ c _ (by omega) hu) hq hN) $$ [HO Hb]
  · isplitr; · iexact HR
    isplitl [HO]; · iexact HO
    iexact Hb
  iintro ⟨HO, Ha, Hp⟩
  ihave Hp' := (Entails.of_eq ((payload_dma m ρ c (2 + d) (by omega) 0).symm.trans (payload_send m ρ c d hd.2 0))) $$ Hp
  unfold sendPay
  iapply h
  isplitr [HX]
  · isplitr; · iexact HR
    isplitl [HO]; · iexact HO
    isplitr [Hbs]
    · isplitl [Hp' Ha]
      · isplitl [Hp']; · iexact Hp'
        iexact Ha
      · iexact Hd
    · iexact Hbs
  · iexact HX

/-- The load of four column blocks, all received. -/
theorem step_ldr {d n : ℕ} {r : LoadRect S128x4096} {src : Memref sig .tc .vmem S128x4096 .bf16} (hsrc : src = rM)
    {hl : src.view.LoadsAt r} {k : (r.shape.Idx → Elt F .bf16) → Prog (TpuEff nD τ sig (Elt F) Λ₀ .tc) α}
    (ho : ∀ i ∈ rM.view.setOn r.set, gotCol d (colB i))
    (h : iprop(Get m ρ K c d n ∗ X) ⊢ WP c (k (rM.view.readAt (Elt F) r (rbuf m ρ c))) Q) :
    iprop(Get m ρ K c d n ∗ X) ⊢ WP c (.op (.load src r hl) k) Q := by
  subst hsrc
  unfold Get at h ⊢
  iintro ⟨⟨#HR, HO, ⟨Hr, Hd⟩, HW⟩, HX⟩
  iapply (wp_load 𝒱₀ (c : Thread nD τ) none Set.univ (m := rM) (S := part colB (gotCol d)) (fun i hi => mem_part.mpr (ho i hi))) $$ Hr; iintro Hr
  iapply h
  isplitr [HX]
  · isplitr; · iexact HR
    isplitl [HO]; · iexact HO
    isplitr [HW]
    · isplitl [Hr]; · iexact Hr
      iexact Hd
    · iexact HW
  · iexact HX

/-- The load of four row blocks of `w`, all brought. -/
theorem step_ldw {d n : ℕ} {r : LoadRect S4096x2048} {src : Memref sig .tc .vmem S4096x2048 .f32} (hsrc : src = bM)
    {hl : src.view.LoadsAt r} {k : (r.shape.Idx → Elt F .f32) → Prog (TpuEff nD τ sig (Elt F) Λ₀ .tc) α}
    (ho : ∀ i ∈ bM.view.setOn r.set, gotRow n (rowB i))
    (h : iprop(Get m ρ K c d n ∗ X) ⊢ WP c (k (bM.view.readAt (Elt F) r (bbuf m ρ c))) Q) :
    iprop(Get m ρ K c d n ∗ X) ⊢ WP c (.op (.load src r hl) k) Q := by
  subst hsrc
  unfold Get at h ⊢
  iintro ⟨⟨#HR, HO, HC, Hr, Hd⟩, HX⟩
  iapply (wp_load 𝒱₀ (c : Thread nD τ) none Set.univ (m := bM) (S := part rowB (gotRow n)) (fun i hi => mem_part.mpr (ho i hi))) $$ Hr; iintro Hr
  iapply h
  isplitr [HX]
  · isplitr; · iexact HR
    isplitl [HO]; · iexact HO
    isplitl [HC]; · iexact HC
    isplitl [Hr]; · iexact Hr
    iexact Hd
  · iexact HX

end Steps

end Cert.KernelIdealProof

end
-- ==== Proof.KernelIdealStepD.lean ====
/-
The kernel's remaining steps, each of which occurs once: the send buffer's filling, the local copy, the barrier's wait, the
store of the result; and how the end of each phase is the start of the next.
-/
module

public import proofs.«01_k».proof.Proof.KernelIdealStepC
public import Idealize.ShloMosaic.Lib.Pipeline.Value

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 98 → ℕ)

section Once

variable (c : Dev nD) {α : Type} {Q : α → sProp (MT nD τ sig Unit (Elt F) ℕ UU ℕ)} {k : PUnit → Prog (TpuEff nD τ sig (Elt F) Λ₀ .tc) α}
  {X : sProp (MT nD τ sig Unit (Elt F) ℕ UU ℕ)}

/-- Offset zero. -/
theorem hz : (![0, 0] : Fin 2 → Nat) = fun _ => 0 := funext fun a => by fin_cases a <;> rfl

omit [FloatOps F] in
/-- Reading all of `x` reads its contents. -/
theorem read_x (f : (cc0_stg0_0 : Ref sig .tc).ty.Contents (Elt F)) : (xM : Memref sig .tc .vmem S4096x128 .f32).view.readAt (Elt F)
    (Rect.unit (s := S4096x128) ![0, 0] S4096x128.size inb_S4096x128_S4096x128_0_0).toLoadRect f = f :=
  Memref.readAt_unit_zero (Elt F) cc0_stg0_0 hz _ f
omit [FloatOps F] in
/-- Writing all of the send buffer leaves what was written. -/
theorem write_s (f w : (cc0_scratch0 : Ref sig .tc).ty.Contents (Elt F)) : ((sM : Memref sig .tc .vmem S4096x128 .bf16).access
    (Rect.unit (s := S4096x128) ![0, 0] S4096x128.size inb_S4096x128_S4096x128_0_0) : View sig .tc _ _ _).write (Elt F) f w Finset.univ = w :=
  Memref.write_access_unit_zero_univ (Elt F) cc0_scratch0 hz _ f w
omit [FloatOps F] in
/-- The same of the result. -/
theorem write_o (f w : (cc0_stg1_0 : Ref sig .tc).ty.Contents (Elt F)) : ((oM : Memref sig .tc .vmem S128x2048 .f32).access
    (Rect.unit (s := S128x2048) ![0, 0] S128x2048.size inb_S128x2048_S128x2048_0_0) : View sig .tc _ _ _).write (Elt F) f w Finset.univ = w :=
  Memref.write_access_unit_zero_univ (Elt F) cc0_stg1_0 hz _ f w

/-- The program's end. -/
theorem ret_intro {P : sProp 𝕄} (a : α) (h : P ⊢ Q a) : P ⊢ WP c (.ret a) Q := by
  refine h.trans ?_
  unfold WP
  rw [wp_ret]; iintro H; imodintro; iexact H

/-- A part of the program, then the rest: the part may be run for whatever the rest asks of its result. -/
theorem bind_intro {β : Type} {P R : sProp 𝕄} {a : β} {p : Prog (TpuEff nD τ sig (Elt F) Λ₀ .tc) β}
    {k : β → Prog (TpuEff nD τ sig (Elt F) Λ₀ .tc) α}
    (h : ∀ Q' : β → sProp 𝕄, (R ⊢ Q' a) → P ⊢ WP c p Q') (h' : R ⊢ WP c (k a) Q) : P ⊢ WP c (p >>= k) Q := by
  unfold WP
  rw [wp_bind]
  exact h _ h'

/-- The whole of `x`'s block read, the whole send buffer written. -/
theorem step_fill {h1 h2 h3 h4}
    (h : iprop(((xL c ↦{fullShare} (xstg m ρ c)) ∗ (sL c ↦{fullShare} (sbuf m ρ c))) ∗ X) ⊢ WP c (k ⟨⟩) Q) :
    iprop(((xL c ↦{fullShare} (xstg m ρ c)) ∗ ∃ f : S4096x128.Idx → Elt F .bf16, sL c ↦{fullShare} f) ∗ X)
      ⊢ WP c (.op (.load xM (Rect.unit (s := S4096x128) ![0, 0] S4096x128.size inb_S4096x128_S4096x128_0_0).toLoadRect h1) fun v =>
          .op (.load sM (Rect.unit (s := S4096x128) ![0, 0] S4096x128.size inb_S4096x128_S4096x128_0_0).toLoadRect h2) fun _ =>
          .op (.store sM (Rect.unit (s := S4096x128) ![0, 0] S4096x128.size inb_S4096x128_S4096x128_0_0) (k0_pay1 v) Finset.univ h3 h4) k) Q := by
  iintro ⟨⟨Hx, %f, Hs⟩, HX⟩
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM)
    (r := Rect.unit (s := S4096x128) ![0, 0] S4096x128.size inb_S4096x128_S4096x128_0_0) (Mk := Finset.univ) (Finset.subset_univ _)) $$ Hs; iintro Hs
  rw [read_x, write_s]
  iapply h
  isplitl [Hx Hs]
  · isplitl [Hx]; · iexact Hx
    iexact Hs
  · iexact HX

/-- The result's store. -/
theorem step_out {P : sProp 𝕄} {h1 h2 h3} {v : S128x2048.Idx → Elt F .f32}
    (h : iprop(P ∗ (oL c ↦{fullShare} v) ∗ X) ⊢ WP c (k ⟨⟩) Q) :
    iprop(P ∗ (∃ f : S128x2048.Idx → Elt F .f32, oL c ↦{fullShare} f) ∗ X)
      ⊢ WP c (.op (.load oM (Rect.unit (s := S128x2048) ![0, 0] S128x2048.size inb_S128x2048_S128x2048_0_0).toLoadRect h1) fun _ =>
          .op (.store oM (Rect.unit (s := S128x2048) ![0, 0] S128x2048.size inb_S128x2048_S128x2048_0_0) v Finset.univ h2 h3) k) Q := by
  iintro ⟨HP, ⟨%f, Ho⟩, HX⟩
  iapply (wp_load 𝒱₀ (c : Thread nD τ) none Set.univ (m := oM) (Finset.subset_univ _)) $$ Ho; iintro Ho
  iapply (wp_store 𝒱₀ (c : Thread nD τ) none Set.univ (m := oM)
    (r := Rect.unit (s := S128x2048) ![0, 0] S128x2048.size inb_S128x2048_S128x2048_0_0) (Mk := Finset.univ) (Finset.subset_univ _)) $$ Ho; iintro Ho
  rw [write_o]
  iapply h
  isplitl [HP]; · iexact HP
  isplitl [Ho]; · iexact Ho
  iexact HX

/-- The local copy of the device's own rows into column block 0. -/
theorem step_diag {src : Memref sig .tc .vmem S128x128 .bf16} {dst : Memref sig .tc .vmem S128x128 .bf16} {q : DmaSem sig}
    (hsrc : src = diagSl c) (o : ℕ) (ho) (hdst : dst = colSl o ho) (eo : o = 4096 - 128 * 32) (hq : q = dmaQ (34 + 32))
    {h1 : src.view.WordExact} {h2 : dst.view.WordExact} {h3 : (DmaTarget.here dst : DmaTarget nD τ sig (Proc.tc : Proc τ) .vmem S128x128 .bf16).Typed .vmem (.dma q)}
    (h : iprop(cred (tallyAt (recvCell c 32) () N1) ∗ X) ⊢ WP c (k ⟨⟩) Q) :
    iprop((recs m ρ K ∗ dutyTok ER (recvCell c 32) 0 0 ∗ (∃ f, rP c 0 f) ∗ sP m ρ c c.val) ∗ X)
      ⊢ WP c (.op (.enqueueDma src (.here dst) (.dma q) h1 h2 h3) k) Q := by
  subst hsrc hdst hq
  have hu : Used (34 + 32) := ⟨by omega, by omega⟩
  have hoff : k0_off2 c = ![128 * ((c.val + 32) % 32), 0] := by
    rw [k0_off2_eq c, Nat.add_mod_right, Nat.mod_eq_of_lt (lt32 c)]
  have hoff' : k0_off2 c = ![128 * c.val, 0] := k0_off2_eq c
  have hc : dv c 32 = c := Fin.ext (by rw [dv_val, Nat.add_mod_right, Nat.mod_eq_of_lt (lt32 c)])
  have hpay : ∀ f : S128x4096.Idx → Elt F .bf16, iprop(((colSl o ho).view.loc (c : Thread nD τ) ↦[(colSl o ho).view.set]{fullShare}
        ((colSl o ho).view.write (Elt F) f ((diagSl c).view.read (Elt F) (sbuf m ρ c)) Finset.univ))
      ∗ ((diagSl c).view.loc (c : Thread nD τ) ↦[(diagSl c).view.set]{fullShare} (sbuf m ρ c)))
      ⊢ (rd m ρ).payload (recvCell c 32) 0 0 := by
    intro f
    rw [payload_recv m ρ c 32 (by omega), ← sP_eq m ρ c _ (k0_off2_inb c) _ hoff']
    have := landed_recv m ρ c 32 (by omega) _ (k0_off2_inb c) hoff o ho eo f
    rw [hc] at this
    unfold recvPay diagBack
    rw [if_pos rfl]
    exact sep_mono_left this
  iintro ⟨⟨#HR, Ht, ⟨%f, Hr⟩, Hs⟩, HX⟩
  ihave Hr' := (Entails.of_eq (rP_eq (F := F) c o ho 0 (by omega) f)) $$ Hr
  ihave Hs' := (Entails.of_eq (sP_eq m ρ c _ (k0_off2_inb c) _ hoff')) $$ Hs
  iapply (Rounds.wp_copy_pointsTo 𝒱₀ ER (rd m ρ) (c : Thread nD τ) none (κ := dmaName K c (34 + 32) (by omega))
      (r := 0) (d := 0) (by rw [duties_dma m ρ c _ (by omega) hu]; exact Finset.mem_singleton_self _) () N1 (amt_col o ho _)
      (amount_xfer m ρ c _ (by omega) 0) (hpay f)) $$ [Ht Hr' Hs']
  · isplitr; · iapply (inv_dma m ρ K c (34 + 32) (by omega) _); iexact HR
    isplitl [Hs']; · iexact Hs'
    isplitl [Hr']; · iexact Hr'
    isplitl [Ht]; · iexact Ht
    iapply (reached_dma m ρ K c (34 + 32) (by omega) (by omega)); iexact HR
  iintro Hc'
  iapply h
  isplitl [Hc']; · iexact Hc'
  iexact HX

set_option maxRecDepth 20000 in
/-- The barrier's wait, which brings the column blocks of the peers. -/
theorem step_bar {s : Sem sig} (hs : s = barS) {n : ℕ} (hn : n = 31)
    (h : iprop((owesE c (owedRecv c 1) ∗ atPos ER (barCell c) 1 ∅ 0 ∗ bigSep (Finset.Ico 1 32) fun d => barPay (F := F) c d) ∗ X) ⊢ WP c (k ⟨⟩) Q) :
    iprop((recs m ρ K ∗ owesE c (owedRecv c 1) ∗ cred (tallyAt (barCell c) () 31) ∗ atPos ER (barCell c) 0 ∅ 0) ∗ X)
      ⊢ WP c (.op (.semWait s n) k) Q := by
  subst hs hn
  unfold owesE at h ⊢
  have hm : recs m ρ K ⊢ MayWait (c : Thread nD τ) (.reg barS) () (owedRecv c 1) := (recs_lev m ρ K).trans (mayWait_bar c)
  iintro ⟨⟨#HR, ⟨%W, HO⟩, Hc, Hat⟩, HX⟩
  iapply (Rounds.wp_wait_rest_token 𝒱₀ ER (rd m ρ) (c : Thread nD τ) none (κ := K (c, 0))
      (wpE_semWait_eq 𝒱₀ (c : Thread nD τ) none Set.univ) (Set.mem_univ _) () (O := owedRecv c 1) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply hm; iexact HR
    iexact Hat
  iintro ⟨HO, Hat, -, Hpay⟩
  iapply h
  isplitr [HX]
  · isplitl [HO]; · iexists _; iexact HO
    isplitl [Hat]; · iexact Hat
    iapply (Entails.of_eq (rest_bar m ρ c)); iexact Hpay
  · iexact HX

/-! ## The elements that a load reads -/

/-- The columns that a product reads have arrived. -/
theorem cols_read (d o : ℕ) (h : ∀ a, (![0, o] : Fin 2 → ℕ) a + S128x512.size a ≤ S128x4096.size a) (hd : 4224 ≤ 128 * d + o) :
    ∀ i ∈ rM.view.setOn (Rect.unit (s := S128x4096) ![0, o] S128x512.size h).toLoadRect.set, gotCol d (colB i) := by
  intro i hi
  obtain ⟨x, hx, rfl⟩ := Finset.mem_map.mp hi
  have h1 : o ≤ (x 1).val := ((Rect.mem_set_unit.mp hx) 1).1
  have h2 : (x 1).val < 4096 := (x 1).isLt
  show 32 < d + (x 1).val / 128
  omega

/-- The rows of `w` that a product reads have arrived. -/
theorem rows_read (n o : ℕ) (h : ∀ a, (![o, 0] : Fin 2 → ℕ) a + S512x2048.size a ≤ S4096x2048.size a) (hn : 4096 ≤ 128 * n + o) (ho : o % 512 = 0) :
    ∀ i ∈ bM.view.setOn (Rect.unit (s := S4096x2048) ![o, 0] S512x2048.size h).toLoadRect.set, gotRow n (rowB i) := by
  intro i hi
  obtain ⟨x, hx, rfl⟩ := Finset.mem_map.mp hi
  have h1 : o ≤ (x 0).val := ((Rect.mem_set_unit.mp hx) 0).1
  have h2 : (x 0).val < 4096 := (x 0).isLt
  show 4 * (7 - (x 0).val / 128 / 4) + (x 0).val / 128 % 4 < n
  omega

end Once

end Cert.KernelIdealProof

end
-- ==== Proof.KernelIdealPhases.lean ====
/-
How the end of each phase of the kernel is the start of the next, and what the last one leaves.
-/
module

public import proofs.«01_k».proof.Proof.KernelIdealStepD
public import Idealize.ShloMosaic.Lib.Pipeline.Value

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 98 → ℕ)

section Phases

variable (c : Dev nD)

/-! ## What is held between the phases -/

/-- The two duties of each send. -/
def toks : sProp 𝕄 :=
  bigSep (Finset.Ico 1 32) fun d => iprop(dutyTok ER (sendCell c d) 0 0 ∗ dutyTok ER (recvCell (dv c d) d) 0 0)

/-- A DMA cell at its round 0. -/
def start0 (v : ℕ) : sProp 𝕄 := atPos ER (dmaCell c v) 0 ∅ 0

/-- What the copies to column block 0 and the barrier's wait need. -/
def Mid : sProp 𝕄 :=
  iprop(dutyTok ER (recvCell c 32) 0 0 ∗ (∃ f, rP (F := F) c 0 f) ∗ cred (tallyAt (barCell c) () 31) ∗ atPos ER (barCell c) 0 ∅ 0 ∗ toks c)

/-- The cells that the kernel waits on later, the credit of the receives, and the two cells that it never uses. -/
def Cells : sProp 𝕄 :=
  iprop(bigSep (Finset.Ico 1 33) (fun e => start0 (F := F) c (34 + e)) ∗ bigSep (Finset.Ico 1 32) (fun e => cred (tallyAt (recvCell c e) () N1))
    ∗ bigSep (Finset.Ico 0 32) (fun e => start0 (F := F) c (67 + ord e)) ∗ bigSep (Finset.Ico 1 32) (fun e => start0 (F := F) c (2 + e))
    ∗ start0 c 2 ∗ start0 c 34)

/-- The result's buffer, and the cells of the later phases. -/
def Late : sProp 𝕄 := iprop((∃ g : S128x2048.Idx → Elt F .f32, oL c ↦{fullShare} g) ∗ Cells c)

/-- What is left when the sends are under way. -/
def Rest : sProp 𝕄 :=
  iprop(atPos ER (barCell c) 1 ∅ 0 ∗ (xL c ↦{fullShare} (xstg m ρ c)) ∗ start0 c 2 ∗ start0 c 34)

/-- The buffers and the cells that the receives and the copies have given back. -/
def Back : sProp 𝕄 :=
  iprop((rL c ↦{fullShare} (rbuf m ρ c)) ∗ (bL c ↦{fullShare} (bbuf m ρ c)) ∗ (wL c ↦{fullShare} (wAt m ρ c)) ∗ sP m ρ c c.val
    ∗ bigSep (Finset.Ico 35 67) (after (F := F) c) ∗ bigSep (Finset.Ico 67 99) (after (F := F) c))

/-- What the kernel leaves. -/
def Post (v : S128x2048.Idx → Elt F .f32) : sProp 𝕄 :=
  iprop((xL c ↦{fullShare} (xstg m ρ c)) ∗ (oL c ↦{fullShare} v) ∗ (sL c ↦{fullShare} (sbuf m ρ c)) ∗ (rL c ↦{fullShare} (rbuf m ρ c))
    ∗ (bL c ↦{fullShare} (bbuf m ρ c)) ∗ (wL c ↦{fullShare} (wAt m ρ c)) ∗ semVal (barCell c) 0
    ∗ bigSep (Finset.Ico 2 99) (fun v => semVal (dmaCell c v) 0) ∗ owesE c 0)

/-! ## Families renumbered -/

omit [FloatOps F] in
/-- A conjunction over shifted numbers is one over the shifted range. -/
theorem moved (Φ : ℕ → sProp 𝕄) (a b k : ℕ) : bigSep (Finset.Ico a b) (fun e => Φ (k + e)) = bigSep (Finset.Ico (a + k) (b + k)) Φ := by
  rw [ico_shift]; exact bigSep_congr fun i _ => by rw [Nat.add_comm]

omit [FloatOps F] in
/-- Taking the row blocks in the order in which the kernel copies them is taking them all. -/
theorem in_order (Φ : ℕ → sProp 𝕄) : bigSep (Finset.Ico 0 32) (fun e => Φ (ord e)) = bigSep (Finset.Ico 0 32) Φ :=
  (ico_perm 32 ord ord_lt fun i j hi hj h => ord_inj i j hi hj h).symm

/-- The send buffer has 32 row blocks. -/
theorem rowS_lt (i : S4096x128.Idx) : rowS i < 32 := by
  have : (i 0).val < 4096 := (i 0).isLt
  show (i 0).val / 128 < 32; omega
/-- The buffer for `w` has 32 row blocks. -/
theorem rowB_lt (i : S4096x2048.Idx) : rowB i < 32 := by
  have : (i 0).val < 4096 := (i 0).isLt
  show (i 0).val / 128 < 32; omega
/-- The row buffer has 32 column blocks. -/
theorem colB_lt (i : S128x4096.Idx) : colB i < 32 := by
  have : (i 1).val < 4096 := (i 1).isLt
  show (i 1).val / 128 < 32; omega

/-- The send buffer is the device's own rows and the rows that it sends. -/
theorem sends_eq : ((sL c ↦{fullShare} (sbuf m ρ c)) : sProp 𝕄)
    = iprop(sP m ρ c c.val ∗ bigSep (Finset.Ico 1 32) fun d => sP m ρ c ((c.val + d) % 32)) := by
  have hc := lt32 c
  rw [blocks_eq rowS 32 rowS_lt]
  show bigSep (Finset.Ico 0 32) (fun j => sP m ρ c j) = _
  rw [ico_perm 32 (fun d => (c.val + d) % 32) (fun i hi => Nat.mod_lt _ (by decide)) (fun i j hi hj h => by omega),
    ico_first (by decide : 0 < 32)]
  rw [Nat.add_zero, Nat.mod_eq_of_lt hc]

/-- `w` is the row blocks that the copies read. -/
theorem ws_eq : ((wL c ↦{fullShare} (wAt m ρ c)) : sProp 𝕄)
    = bigSep (Finset.Ico 0 32) fun e => wP m ρ c ((ord e + c.val) % 32) := by
  have hc := lt32 c
  rw [blocks_eq rowB 32 rowB_lt]
  show bigSep (Finset.Ico 0 32) (fun j => wP m ρ c j) = _
  rw [in_order fun k => wP m ρ c ((k + c.val) % 32)]
  exact ico_perm 32 (fun d => (d + c.val) % 32) (fun i hi => Nat.mod_lt _ (by decide)) (fun i j hi hj h => by omega)

omit [FloatOps F] in
/-- The column blocks that the barrier brings are those that the sends write. -/
theorem peers_eq : (bigSep (Finset.Ico 1 32) (fun d => barPay (F := F) c d) : sProp 𝕄)
    = bigSep (Finset.Ico 1 32) fun d => iprop(∃ f, rP (dv c d) (32 - d) f) := by
  rw [ico_flip 32]
  refine bigSep_congr fun d hd => ?_
  have := Finset.mem_Ico.mp hd
  unfold barPay
  rw [show 32 - (32 - d) = d by omega]

/-- Arrival number 32, of the local copy, gives back the own rows of the send buffer. -/
theorem diag_own : (diagBack m ρ c 32 : sProp 𝕄) = sP m ρ c c.val := if_pos rfl

/-- Before the first wait nothing of the buffers is held, after the last all is. -/
theorem no_cols : ((rL c ↦[part colB (gotCol 1)]{fullShare} (rbuf m ρ c)) : sProp 𝕄) = iprop(emp) :=
  part_none (ℓ := rL c) colB (gotCol 1) fun i h => by have := colB_lt i; have h' : 32 < 1 + colB i := h; omega
/-- Before the first wait no row block of `w` is held. -/
theorem no_rows : ((bL c ↦[part rowB (gotRow 0)]{fullShare} (bbuf m ρ c)) : sProp 𝕄) = iprop(emp) :=
  part_none (ℓ := bL c) rowB (gotRow 0) fun i h => absurd h (Nat.not_lt_zero _)
/-- After arrival number 32 the whole row buffer is held. -/
theorem all_cols : ((rL c ↦[part colB (gotCol 33)]{fullShare} (rbuf m ρ c)) : sProp 𝕄) = (rL c ↦{fullShare} (rbuf m ρ c)) :=
  part_all (ℓ := rL c) colB (gotCol 33) fun i => by show 32 < 33 + colB i; omega
/-- After 32 waits the whole buffer for `w` is held. -/
theorem all_rows : ((bL c ↦[part rowB (gotRow 32)]{fullShare} (bbuf m ρ c)) : sProp 𝕄) = (bL c ↦{fullShare} (bbuf m ρ c)) :=
  part_all (ℓ := bL c) rowB (gotRow 32) fun i => by
    have := rowB_lt i
    show 4 * (7 - rowB i / 4) + rowB i % 4 < 32
    omega

/-! ## From phase to phase -/

variable {Y : sProp (MT nD τ sig Unit (Elt F) ℕ UU ℕ)}

/-- When the send buffer is full: the local copy's needs, and those of the barrier's wait and of the sends. -/
theorem to_diag :
    iprop(((xL c ↦{fullShare} (xstg m ρ c)) ∗ (sL c ↦{fullShare} (sbuf m ρ c))) ∗ Cpy m ρ K c 32 ∗ Sig m ρ K c 32 ∗ Mid c ∗ Y)
      ⊢ iprop((recs m ρ K ∗ dutyTok ER (recvCell c 32) 0 0 ∗ (∃ f, rP c 0 f) ∗ sP m ρ c c.val)
        ∗ (recs m ρ K ∗ owesE c (owedRecv c 1) ∗ cred (tallyAt (barCell c) () 31) ∗ atPos ER (barCell c) 0 ∅ 0)
        ∗ (bigSep (Finset.Ico 1 32) (fun d => sP m ρ c ((c.val + d) % 32)) ∗ toks c ∗ (xL c ↦{fullShare} (xstg m ρ c)) ∗ Cpy m ρ K c 32 ∗ Y)) := by
  rw [sends_eq]
  unfold Sig Mid
  rw [owedBar_none, add_zero]
  iintro ⟨⟨Hx, Hs, Hss⟩, Hc, ⟨#HR, HO, -⟩, ⟨Ht, Hr, Hcr, Hat, Htk⟩, HY⟩
  isplitl [Ht Hr Hs]
  · isplitr; · iexact HR
    isplitl [Ht]; · iexact Ht
    isplitl [Hr]; · iexact Hr
    iexact Hs
  isplitl [HO Hcr Hat]
  · isplitr; · iexact HR
    isplitl [HO]; · iexact HO
    isplitl [Hcr]; · iexact Hcr
    iexact Hat
  isplitl [Hss]; · iexact Hss
  isplitl [Htk]; · iexact Htk
  isplitl [Hx]; · iexact Hx
  isplitl [Hc]; · iexact Hc
  iexact HY

/-- When the barrier's wait is over: the sends' needs. -/
theorem to_sends :
    iprop((owesE c (owedRecv c 1) ∗ atPos ER (barCell c) 1 ∅ 0 ∗ bigSep (Finset.Ico 1 32) fun d => barPay (F := F) c d)
        ∗ cred (tallyAt (recvCell c 32) () N1)
        ∗ (bigSep (Finset.Ico 1 32) (fun d => sP m ρ c ((c.val + d) % 32)) ∗ toks c ∗ (xL c ↦{fullShare} (xstg m ρ c)) ∗ Cpy m ρ K c 32 ∗ Y))
      ⊢ iprop(Snd m ρ K c 1 ∗ atPos ER (barCell c) 1 ∅ 0 ∗ cred (tallyAt (recvCell c 32) () N1) ∗ (xL c ↦{fullShare} (xstg m ρ c))
        ∗ Cpy m ρ K c 32 ∗ Y) := by
  rw [peers_eq]
  have hs : iprop(toks c ∗ bigSep (Finset.Ico 1 32) (fun d => sP m ρ c ((c.val + d) % 32))
      ∗ bigSep (Finset.Ico 1 32) (fun d => iprop(∃ f, rP (F := F) (dv c d) (32 - d) f))) ⊢ bigSep (Finset.Ico 1 32) (sndItem m ρ c) := by
    unfold toks
    rw [← bigSep_sep', ← bigSep_sep']
    refine bigSep_mono fun d _ => ?_
    unfold sndItem
    show iprop((dutyTok ER (sendCell c d) 0 0 ∗ dutyTok ER (recvCell (dv c d) d) 0 0) ∗ sP m ρ c ((c.val + d) % 32) ∗ ∃ f, rP (F := F) (dv c d) (32 - d) f) ⊢ _
    iintro ⟨⟨H1, H2⟩, H3, H4⟩
    isplitl [H1]; · iexact H1
    isplitl [H2]; · iexact H2
    isplitl [H3]; · iexact H3
    iexact H4
  unfold Snd
  rw [ico_nil]
  iintro ⟨⟨HO, Hat, Hp⟩, Hc, Hs, Ht, Hx, HC, HY⟩
  unfold Cpy
  icases HC with ⟨#HR, HC1, HC2⟩
  isplitl [HO Hp Hs Ht]
  · isplitr; · iexact HR
    isplitl [HO]; · iexact HO
    isplitl [Hp Hs Ht]
    · iapply hs
      isplitl [Ht]; · iexact Ht
      isplitl [Hs]; · iexact Hs
      iexact Hp
    · iempintro
  isplitl [Hat]; · iexact Hat
  isplitl [Hc]; · iexact Hc
  isplitl [Hx]; · iexact Hx
  isplitl [HC1 HC2]
  · isplitr; · iexact HR
    isplitl [HC1]; · iexact HC1
    iexact HC2
  iexact HY

/-- When the sends are under way: the waits' needs. -/
theorem to_gets :
    iprop(Snd m ρ K c 32 ∗ atPos ER (barCell c) 1 ∅ 0 ∗ cred (tallyAt (recvCell c 32) () N1) ∗ (xL c ↦{fullShare} (xstg m ρ c))
        ∗ Cpy m ρ K c 32 ∗ Late c)
      ⊢ iprop(Get m ρ K c 1 0 ∗ (∃ g : S128x2048.Idx → Elt F .f32, oL c ↦{fullShare} g)
        ∗ bigSep (Finset.Ico 1 32) (fun e => before (F := F) c (2 + e) N1) ∗ Rest m ρ c) := by
  have h1 : iprop(bigSep (Finset.Ico 1 33) (fun e => start0 (F := F) c (34 + e)) ∗ cred (tallyAt (recvCell c 32) () N1)
      ∗ bigSep (Finset.Ico 1 32) (fun e => cred (tallyAt (recvCell c e) () N1))) ⊢ bigSep (Finset.Ico 1 33) (fun e => before (F := F) c (34 + e) N1) := by
    have := ico_last (Φ := fun e => (cred (tallyAt (recvCell c e) () N1) : sProp 𝕄)) (by decide : 1 ≤ 32)
    rw [← this, ← bigSep_sep']
    refine bigSep_mono fun e _ => ?_
    show iprop(start0 (F := F) c (34 + e) ∗ cred (tallyAt (recvCell c e) () N1)) ⊢ iprop(cred (tallyAt (recvCell c e) () N1) ∗ start0 (F := F) c (34 + e))
    exact sep_comm.1
  have h2 : iprop(bigSep (Finset.Ico 0 32) (fun e => start0 (F := F) c (67 + ord e)) ∗ bigSep (Finset.Ico 0 32) (cpyCred (F := F) c))
      ⊢ bigSep (Finset.Ico 0 32) (fun e => before (F := F) c (67 + ord e) N2) := by
    rw [← bigSep_sep']
    refine bigSep_mono fun e _ => ?_
    show iprop(start0 (F := F) c (67 + ord e) ∗ cpyCred (F := F) c e) ⊢ iprop(cpyCred (F := F) c e ∗ start0 (F := F) c (67 + ord e))
    exact sep_comm.1
  have h3 : iprop(bigSep (Finset.Ico 1 32) (fun e => start0 (F := F) c (2 + e)) ∗ bigSep (Finset.Ico 1 32) (sndCred (F := F) c))
      ⊢ bigSep (Finset.Ico 1 32) (fun e => before (F := F) c (2 + e) N1) := by
    rw [← bigSep_sep']
    refine bigSep_mono fun e _ => ?_
    show iprop(start0 (F := F) c (2 + e) ∗ sndCred (F := F) c e) ⊢ iprop(sndCred (F := F) c e ∗ start0 (F := F) c (2 + e))
    exact sep_comm.1
  unfold Snd Cpy Late Cells Get Rest
  rw [owedRecv_none, no_cols, no_rows, ico_nil (n := 0), ico_nil (n := 1)]
  iintro ⟨⟨#HR, HO, -, Hsc⟩, Hb, Hc, Hx, ⟨-, -, Hcc⟩, Ho, Hr, Hrc, Hw, Hs, H2, H34⟩
  isplitl [HO Hr Hrc Hc Hw Hcc]
  · isplitr; · iexact HR
    isplitl [HO]; · iexact HO
    isplitl [Hr Hrc Hc]
    · isplitr; · iempintro
      isplitr; · iempintro
      iapply h1
      isplitl [Hr]; · iexact Hr
      isplitl [Hc]; · iexact Hc
      iexact Hrc
    · isplitr; · iempintro
      isplitr; · iempintro
      iapply h2
      isplitl [Hw]; · iexact Hw
      iexact Hcc
  isplitl [Ho]; · iexact Ho
  isplitl [Hs Hsc]
  · iapply h3
    isplitl [Hs]; · iexact Hs
    iexact Hsc
  isplitl [Hb]; · iexact Hb
  isplitl [Hx]; · iexact Hx
  isplitl [H2]; · iexact H2
  iexact H34

/-- When all has been waited for that the result is made of: the sends' last waits. -/
theorem to_dons :
    iprop(Get m ρ K c 33 32 ∗ Y ∗ bigSep (Finset.Ico 1 32) (fun e => before (F := F) c (2 + e) N1) ∗ Rest m ρ c)
      ⊢ iprop(Don m ρ K c 1 ∗ Y ∗ Back m ρ c ∗ Rest m ρ c) := by
  have h1 : bigSep (Finset.Ico 1 33) (fun e => iprop(diagBack m ρ c e ∗ after (F := F) c (34 + e)))
      ⊢ iprop(sP m ρ c c.val ∗ bigSep (Finset.Ico 35 67) (after (F := F) c)) := by
    rw [bigSep_sep', moved (fun v => after (F := F) c v), ico_last (by decide : 1 ≤ 32), diag_own]
    iintro ⟨⟨H, -⟩, H'⟩
    isplitl [H]; · iexact H
    iexact H'
  have h2 : bigSep (Finset.Ico 0 32) (fun e => iprop(wP m ρ c ((ord e + c.val) % 32) ∗ after (F := F) c (67 + ord e)))
      ⊢ iprop((wL c ↦{fullShare} (wAt m ρ c)) ∗ bigSep (Finset.Ico 67 99) (after (F := F) c)) := by
    rw [bigSep_sep', ← ws_eq, in_order (fun k => after (F := F) c (67 + k)), moved (fun v => after (F := F) c v)]
  unfold Get Don Back
  rw [all_cols, all_rows, ico_nil (n := 1)]
  iintro ⟨⟨#HR, HO, ⟨Hr, Hd, -⟩, Hb, Hw, -⟩, HY, Hs, HE⟩
  ihave Hd' := h1 $$ Hd
  ihave Hw' := h2 $$ Hw
  icases Hd' with ⟨Hd, Ha⟩
  icases Hw' with ⟨Hw, Ha'⟩
  isplitl [HO Hs]
  · isplitr; · iexact HR
    isplitl [HO]; · iexact HO
    isplitr; · iempintro
    iexact Hs
  isplitl [HY]; · iexact HY
  isplitr [HE]
  · isplitl [Hr]; · iexact Hr
    isplitl [Hb]; · iexact Hb
    isplitl [Hw]; · iexact Hw
    isplitl [Hd]; · iexact Hd
    isplitl [Ha]; · iexact Ha
    iexact Ha'
  · iexact HE

/-! ## The cells closed -/

/-- A semaphore whose one round is over is at zero, and its invariant can be closed. -/
theorem close_used (v : ℕ) (h : 2 ≤ v) (h' : v < 99) : iprop(recs m ρ K ∗ after (F := F) c v) ⊢ iprop(|={Set.univ}=> semVal (dmaCell c v) 0) := by
  unfold after
  iintro ⟨#HR, Hat⟩
  imod (Rounds.cell_close ER (rd m ρ) (Set.mem_univ (dmaName K c v h')) (fun h => h) (R := 0 + 1) (duties_later m ρ (dmaCell c v))) $$ [Hat] with Hz
  · isplitr; · iapply (inv_dma m ρ K c v h h'); iexact HR
    iexact Hat
  imodintro; iexact Hz

/-- So is one that is never used. -/
theorem close_idle (v : ℕ) (h : 2 ≤ v) (h' : v < 99) (hu : ¬ Used v) : iprop(recs m ρ K ∗ start0 (F := F) c v) ⊢ iprop(|={Set.univ}=> semVal (dmaCell c v) 0) := by
  unfold start0
  iintro ⟨#HR, Hat⟩
  imod (Rounds.cell_close ER (rd m ρ) (Set.mem_univ (dmaName K c v h')) (fun h => h) (R := 0) (duties_idle m ρ c v h' hu)) $$ [Hat] with Hz
  · isplitr; · iapply (inv_dma m ρ K c v h h'); iexact HR
    iexact Hat
  imodintro; iexact Hz

/-- So is the barrier semaphore after its round. -/
theorem close_bar : iprop(recs m ρ K ∗ atPos ER (barCell c) 1 ∅ 0) ⊢ iprop(|={Set.univ}=> semVal (barCell c) 0) := by
  iintro ⟨#HR, Hat⟩
  imod (Rounds.cell_close ER (rd m ρ) (Set.mem_univ (K (c, 0))) (fun h => h) (R := 0 + 1) (duties_later m ρ (barCell c))) $$ [Hat] with Hz
  · isplitr; · iapply (inv_bar m ρ K c); iexact HR
    iexact Hat
  imodintro; iexact Hz

/-- A run of cells closed. -/
theorem close_run (a n : ℕ) (ha : 2 ≤ a) (hn : a + n ≤ 99) :
    iprop(recs m ρ K ∗ bigSep (Finset.Ico a (a + n)) (after (F := F) c)) ⊢ iprop(|={Set.univ}=> bigSep (Finset.Ico a (a + n)) fun v => semVal (dmaCell c v) 0) := by
  induction n with
  | zero =>
    rw [Nat.add_zero, ico_nil, ico_nil]
    iintro -; imodintro; iempintro
  | succ n ih =>
    rw [← Nat.add_assoc, ico_last (by omega : a ≤ a + n), ico_last (by omega : a ≤ a + n)]
    iintro ⟨#HR, H, Hs⟩
    imod (close_used m ρ K c (a + n) (by omega) (by omega)) $$ [H] with Hz
    · isplitr; · iexact HR
      iexact H
    imod (ih (by omega)) $$ [Hs] with Hzs
    · isplitr; · iexact HR
      iexact Hs
    imodintro
    isplitl [Hz]; · iexact Hz
    iexact Hzs

omit [FloatOps F] in
/-- All the DMA semaphores of the kernel: the two idle ones and the three runs. -/
theorem cells_eq (Φ : ℕ → sProp 𝕄) : bigSep (Finset.Ico 2 99) Φ
    = iprop(Φ 2 ∗ bigSep (Finset.Ico 3 34) Φ ∗ Φ 34 ∗ bigSep (Finset.Ico 35 67) Φ ∗ bigSep (Finset.Ico 67 99) Φ) := by
  rw [ico_first (by decide : 2 < 99), ico_cut (by decide : 2 + 1 ≤ 34) (by decide : 34 ≤ 99), ico_first (by decide : 34 < 99),
    ico_cut (by decide : 34 + 1 ≤ 67) (by decide : 67 ≤ 99)]

/-- The end. -/
theorem to_post (v : S128x2048.Idx → Elt F .f32) :
    iprop(Don m ρ K c 32 ∗ (oL c ↦{fullShare} v) ∗ Back m ρ c ∗ Rest m ρ c) ⊢ iprop(|={Set.univ}=> Post m ρ c v) := by
  unfold Don Back Rest Post
  rw [sends_eq, cells_eq, bigSep_sep', moved (fun v => after (F := F) c v)]
  iintro ⟨⟨#HR, HO, ⟨Hs, Ha1⟩, -⟩, Ho, ⟨Hr, Hb, Hw, Hd, Ha2, Ha3⟩, Hat, Hx, H2, H34⟩
  imod (close_bar m ρ K c) $$ [Hat] with Hz
  · isplitr; · iexact HR
    iexact Hat
  imod (close_idle m ρ K c 2 (by decide) (by decide) (by decide)) $$ [H2] with Hz2
  · isplitr; · iexact HR
    iexact H2
  imod (close_idle m ρ K c 34 (by decide) (by decide) (by decide)) $$ [H34] with Hz34
  · isplitr; · iexact HR
    iexact H34
  imod (close_run m ρ K c 3 31 (by decide) (by decide)) $$ [Ha1] with Hz1
  · isplitr; · iexact HR
    iexact Ha1
  imod (close_run m ρ K c 35 32 (by decide) (by decide)) $$ [Ha2] with Hz3
  · isplitr; · iexact HR
    iexact Ha2
  imod (close_run m ρ K c 67 32 (by decide) (by decide)) $$ [Ha3] with Hz4
  · isplitr; · iexact HR
    iexact Ha3
  imodintro
  isplitl [Hx]; · iexact Hx
  isplitl [Ho]; · iexact Ho
  isplitl [Hd Hs]
  · isplitl [Hd]; · iexact Hd
    iexact Hs
  isplitl [Hr]; · iexact Hr
  isplitl [Hb]; · iexact Hb
  isplitl [Hw]; · iexact Hw
  isplitl [Hz]; · iexact Hz
  isplitr [HO]
  · isplitl [Hz2]; · iexact Hz2
    isplitl [Hz1]; · iexact Hz1
    isplitl [Hz34]; · iexact Hz34
    isplitl [Hz3]; · iexact Hz3
    iexact Hz4
  · iexact HO

end Phases

end Cert.KernelIdealProof

end
-- ==== Proof.KernelIdealStart.lean ====
/-
What the launch deals each device: the duties carried to the devices that pay them, the cells opened, the credit of the waits.
-/
module

public import proofs.«01_k».proof.Proof.KernelIdealPhases
public import Idealize.ShloMosaic.Lib.Pipeline.Value

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's cells -/

omit [FloatOps F] in
/-- A family over the kernel's cells is its member at the barrier and those at the DMA semaphores from number 2 on. -/
theorem cells_of (Φ : SemLoc sig → sProp 𝕄) : bigSep Finset.univ (fun k : Fin 98 => Φ (csem k))
    = iprop(Φ (.reg barS) ∗ bigSep (Finset.Ico 2 99) fun v => Φ (dmaS v)) := by
  have h := univ_fin (Φ := fun k : ℕ => Φ (if k = 0 then .reg barS else dmaS (k + 1))) 98
  refine h.trans ?_
  rw [ico_first (by decide : 0 < 98), if_pos rfl]
  rw [show Finset.Ico 2 99 = Finset.Ico (1 + 1) (98 + 1) from rfl, ico_shift 1 98 1]
  refine congrArg (fun x => iprop(Φ (.reg barS) ∗ x)) ?_
  exact bigSep_congr fun k hk => by rw [if_neg (by have := (Finset.mem_Ico.mp hk).1; omega)]

/-- DMA semaphores with different numbers differ. -/
theorem dmaS_inj {v v' : ℕ} (h : v < 99) (h' : v' < 99) (e : (dmaS v : SemLoc sig) = dmaS v') : v = v' := by
  have := congrArg dmaNo e
  rwa [dmaNo_dmaS v h, dmaNo_dmaS v' h'] at this

/-- The list of semaphores has no repetition. -/
theorem csem_inj : Function.Injective csem := by
  intro k k' h
  unfold csem at h
  have hk := k.isLt
  have hk' := k'.isLt
  split at h <;> split at h
  · exact Fin.ext (by omega)
  · exact absurd h.symm (dma_ne_bar _)
  · exact absurd h (dma_ne_bar _)
  · exact Fin.ext (by have := dmaS_inj (by omega) (by omega) h; omega)

/-- Nor has that of all cells. -/
theorem kcell_inj : Function.Injective (kcell : Dev nD × Fin 98 → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_inj⟩

/-! ## The duties -/

/-- Duty number `j` of device `c`'s own cells: the barrier's 31, then one of each DMA semaphore from number 3 on. -/
def tok (c : Dev nD) (j : ℕ) : GSem nD τ sig × ℕ × ℕ := if j < 31 then (barCell c, 0, j + 1) else (dmaCell c (j - 28), 0, 0)

/-- Nor has that of all duties. -/
theorem tok_inj : Function.Injective (fun p : Dev nD × Fin 127 => tok p.1 p.2.val) := by
  rintro ⟨c, j⟩ ⟨c', j'⟩ h
  have hj := j.isLt
  have hj' := j'.isLt
  unfold tok at h
  dsimp only at h
  have key : c = c' ∧ j.val = j'.val := by
    split at h <;> split at h
    · exact ⟨congrArg (fun x : GSem nD τ sig × ℕ × ℕ => x.1.1.1) h, by have := congrArg (fun x : GSem nD τ sig × ℕ × ℕ => x.2.2) h; dsimp only at this; omega⟩
    · exact absurd (congrArg (fun x : GSem nD τ sig × ℕ × ℕ => x.1.2) h).symm (dma_ne_bar _)
    · exact absurd (congrArg (fun x : GSem nD τ sig × ℕ × ℕ => x.1.2) h) (dma_ne_bar _)
    · exact ⟨congrArg (fun x : GSem nD τ sig × ℕ × ℕ => x.1.1.1) h,
        by have := dmaS_inj (by omega) (by omega) (congrArg (fun x : GSem nD τ sig × ℕ × ℕ => x.1.2) h); omega⟩
  obtain ⟨rfl, e⟩ := key
  rw [Fin.ext e]
def allToks : Finset (GSem nD τ sig × ℕ × ℕ) := Finset.univ.map ⟨_, tok_inj⟩

/-- The duty tokens of device `c`'s own cells. -/
def own (c : Dev nD) : sProp 𝕄 := bigSep (Finset.Ico 0 127) fun j => dutyTok ER (tok c j).1 (tok c j).2.1 (tok c j).2.2

/-- The duties of its own DMA semaphores, save those of the remote receives, which others pay. -/
def ownPay (c : Dev nD) : sProp 𝕄 :=
  iprop(bigSep (Finset.Ico 1 32) (fun d => dutyTok ER (sendCell c d) 0 0) ∗ dutyTok ER (recvCell c 32) 0 0
    ∗ bigSep (Finset.Ico 0 32) (fun e => dutyTok ER (wCell c (ord e)) 0 0))

omit [FloatOps F] in
/-- The tokens of a device's cells, by kind. -/
theorem own_split (c : Dev nD) : (own c : sProp 𝕄)
    ⊢ iprop(bigSep (Finset.Ico 1 32) (fun d => dutyTok ER (barCell c) 0 d) ∗ bigSep (Finset.Ico 1 32) (fun d => dutyTok ER (recvCell c d) 0 0) ∗ ownPay c) := by
  have e1 : bigSep (Finset.Ico 0 31) (fun j => (dutyTok ER (tok c j).1 (tok c j).2.1 (tok c j).2.2 : sProp 𝕄))
      = bigSep (Finset.Ico 1 32) (fun d => dutyTok ER (barCell c) 0 d) := by
    rw [show Finset.Ico 1 32 = Finset.Ico (0 + 1) (31 + 1) from rfl, ico_shift 0 31 1]
    refine bigSep_congr fun j hj => ?_
    have := (Finset.mem_Ico.mp hj).2
    unfold tok; rw [if_pos (by omega)]
  have e2 : bigSep (Finset.Ico 31 127) (fun j => (dutyTok ER (tok c j).1 (tok c j).2.1 (tok c j).2.2 : sProp 𝕄))
      = bigSep (Finset.Ico 3 99) (fun v => dutyTok ER (dmaCell c v) 0 0) := by
    rw [show Finset.Ico 31 127 = Finset.Ico (3 + 28) (99 + 28) from rfl, ico_shift 3 99 28]
    refine bigSep_congr fun j hj => ?_
    unfold tok; rw [if_neg (by have := (Finset.mem_Ico.mp hj).1; omega), Nat.add_sub_cancel]
  unfold own ownPay
  rw [ico_cut (by decide : 0 ≤ 31) (by decide : 31 ≤ 127), e1, e2, ico_cut (by decide : 3 ≤ 34) (by decide : 34 ≤ 99),
    ico_first (by decide : 34 < 99), ico_cut (by decide : 34 + 1 ≤ 66) (by decide : 66 ≤ 99), ico_first (by decide : 66 < 99),
    in_order (fun k => (dutyTok ER (wCell c k) 0 0 : sProp 𝕄)), moved (fun v => (dutyTok ER (dmaCell c v) 0 0 : sProp 𝕄)),
    moved (fun v => (dutyTok ER (dmaCell c v) 0 0 : sProp 𝕄)), moved (fun v => (dutyTok ER (dmaCell c v) 0 0 : sProp 𝕄))]
  iintro ⟨Hb, Hs, -, Hr, H32, Hw⟩
  isplitl [Hb]; · iexact Hb
  isplitl [Hr]; · iexact Hr
  isplitl [Hs]; · iexact Hs
  isplitl [H32]; · iexact H32
  iexact Hw

omit [FloatOps F] in
/-- A family dealt around: member `d` of a device's goes to the device whose `d`-th next it is. -/
theorem around (Ξ : Dev nD → ℕ → sProp 𝕄) : bigSep Finset.univ (fun c => bigSep (Finset.Ico 1 32) (Ξ c))
    = bigSep Finset.univ fun c : Dev nD => bigSep (Finset.Ico 1 32) fun d => Ξ (dv c d) d := by
  rw [bigSep_comm, bigSep_comm Finset.univ 1 32 fun (c : Dev nD) d => Ξ (dv c d) d]
  exact bigSep_congr fun d _ => bigSep_univ_equiv (shiftBy d) fun c => Ξ c d

/-- The tokens of the duties that device `c` pays. -/
def payToks (c : Dev nD) : sProp 𝕄 :=
  iprop(bigSep (Finset.Ico 1 32) (fun d => dutyTok ER (barCell (dv c d)) 0 d) ∗ bigSep (Finset.Ico 1 32) (fun d => dutyTok ER (recvCell (dv c d) d) 0 0) ∗ ownPay c)

omit [FloatOps F] in
/-- The tokens of all cells, dealt out to the devices that pay them. -/
theorem toks_around : (bigSep Finset.univ fun c : Dev nD => (own c : sProp 𝕄)) ⊢ bigSep Finset.univ fun c : Dev nD => payToks c := by
  refine (bigSep_mono fun c _ => own_split c).trans ?_
  unfold payToks
  rw [bigSep_sep', bigSep_sep', bigSep_sep', bigSep_sep', around fun c d => dutyTok ER (barCell c) 0 d, around fun c d => dutyTok ER (recvCell c d) 0 0]
  exact BI.Entails.refl _

/-! ## What the launch deals -/

def u₀ : UU :=
  (initOf (Pipeline.cells cfgs cellOf_inj) (Pipeline.launchToks cfgs cellOf_inj), initOf allCells allToks)

/-- What the launch deals device `c`; -/
def G (c : Dev nD) : sProp 𝕄 :=
  iprop((bigSep Finset.univ fun k : Fin 98 => roundState ER (rd m ρ) (kcell (c, k)) 0)
    ∗ (bigSep Finset.univ fun k : Fin 98 => iprop(atPos ER (kcell (c, k)) 0 ∅ 0 ∗ reached ER (kcell (c, k)) 0)) ∗ own c)

/-- the knowledge that opening every cell leaves; -/
def records (K : Dev nD × Fin 98 → ℕ) : sProp 𝕄 :=
  iprop((bigSep Finset.univ fun p : Dev nD × Fin 98 => cellInv ER (rd m ρ) (K p) (kcell p))
    ∗ bigSep Finset.univ fun p : Dev nD × Fin 98 => reached ER (kcell p) 0)

instance records_persistent (K : Dev nD × Fin 98 → ℕ) : BI.Persistent (records m ρ K) := by unfold records; infer_instance

/-- what stays with device `c`: its positions, and the tokens of the duties it pays. -/
def linear (c : Dev nD) : sProp 𝕄 :=
  iprop((atPos ER (barCell c) 0 ∅ 0 ∗ bigSep (Finset.Ico 2 99) (start0 (F := F) c)) ∗ payToks c)

def G' (c : Dev nD) : sProp 𝕄 := iprop(∃ K, records m ρ K ∗ linear c)

/-- The schedule of all devices, started. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 98 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => own c := by
    unfold allToks; rw [bigSep_map, bigSep_univ_prod]
    exact bigSep_congr fun c _ => univ_fin (Φ := fun j => dutyTok ER (tok c j).1 (tok c j).2.1 (tok c j).2.2) 127
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the DMA ones from number 2 on. -/
def osem (k : Fin 97) : SemLoc sig := dmaS (k.val + 2)

/-- The kernel's own semaphores are as the launch asks. -/
theorem ownSemFacts : Pipeline.OwnSemFacts cfg0.spec osem where
  isScoped := by decide +kernel
  inj k k' h := Fin.ext (by
    have := k.isLt
    have := k'.isLt
    have := dmaS_inj (by omega) (by omega) h
    omega)
  disj k w s h := by
    have hk := k.isLt
    have h1 : ∀ w s, dmaNo (.dma ((cfg0.spec w).sem s)) < 2 := by decide +kernel
    have h2 := h1 w s
    rw [← h] at h2
    unfold osem at h2
    rw [dmaNo_dmaS _ (by omega)] at h2
    omega

omit [FloatOps F] in
/-- The own semaphores at zero, one by one. -/
theorem ownSems0_eq (c : Dev nD) : (Pipeline.ownSems0 (Ix := Unit) (Name := ℕ) (U := UU) (Lvl := ℕ) (Val := Elt F) (τ := τ) osem c : sProp 𝕄)
    = bigSep (Finset.Ico 2 99) fun v => semVal (dmaCell c v) 0 := by
  unfold Pipeline.ownSems0
  rw [show Finset.Ico 2 99 = Finset.Ico (0 + 2) (97 + 2) from rfl, ico_shift 0 97 2]
  exact univ_fin (Φ := fun k => (semVal (dmaCell c (k + 2)) 0 : sProp 𝕄)) 97
omit [FloatOps F] in
/-- The barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- With the barrier semaphore. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 98 => semVal (kcell (c, k)) 0 : sProp 𝕄) := by
  rw [ownSems0_eq, unscopedSems0_eq, cells_of fun s => (semVal ((c : Thread nD τ), s) 0 : sProp 𝕄)]
  exact sep_comm.1

/-- A device's cells at zero become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ own c) := by
  unfold G
  iintro ⟨Hos, Hus, Hst, Hat, Htok⟩
  ihave Hv := (sems0_eq (F := F) c) $$ [Hos Hus]
  · isplitl [Hos] <;> iassumption
  imod (show iprop((bigSep Finset.univ fun k : Fin 98 => semVal (kcell (c, k)) 0) ∗ bigSep Finset.univ fun k : Fin 98 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent fact may be used under every member of a conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices are shared, the tokens dealt out. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ own c) : sProp 𝕄)
      ⊢ bigSep Finset.univ (G' m ρ) := by
  rw [bigSep_sep', bigSep_sep', ← bigSep_univ_prod (fun ck : Dev nD × Fin 98 => iprop(∃ κ : ℕ, cellInv ER (rd m ρ) κ (kcell ck))),
    bigSep_congr (s := Finset.univ) (fun (c : Dev nD) _ => bigSep_sep' Finset.univ (fun k : Fin 98 => (atPos ER (kcell (c, k)) 0 ∅ 0 : sProp 𝕄)) (fun k => reached ER (kcell (c, k)) 0)),
    bigSep_sep', ← bigSep_univ_prod (fun ck : Dev nD × Fin 98 => (reached ER (kcell ck) 0 : sProp 𝕄))]
  iintro ⟨HI, ⟨Hat, #HR⟩, Htok⟩
  ihave HK := (BI.bigSep_exists_pi Finset.univ (fun (ck : Dev nD × Fin 98) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : Fin 98 => (atPos ER (kcell (c, k)) 0 ∅ 0 : sProp 𝕄)) payToks).symm).trans
      (bigSep_mono fun c _ => show _ ⊢ linear c from Entails.of_eq (by
        unfold linear start0; rw [cells_of fun s => (atPos ER ((c : Thread nD τ), s) 0 ∅ 0 : sProp 𝕄)])))
    isplitl [Hat]; · iexact Hat
    iexact Htk

/-- Every cell of every device opened at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A sum over the devices of what each owes the device `d` places on. -/
theorem sum_around (f : Dev nD → ℕ → ℕ) : (∑ c : Dev nD, ∑ d ∈ Finset.Ico 1 32, f (dv c d) d) = ∑ d ∈ Finset.Ico 1 32, ∑ c : Dev nD, f c d := by
  rw [Finset.sum_comm]
  exact Finset.sum_congr rfl fun d _ => Equiv.sum_comp (shiftBy d) fun c => f c d

/-- A sum of tallies at a cell. -/
theorem sum_apply {s : Finset ℕ} (f : ℕ → CellTallies nD τ sig Unit) (g : GSem nD τ sig) : (∑ d ∈ s, f d) g () = ∑ d ∈ s, f d g () := by
  rw [Finset.sum_apply, Finsupp.finset_sum_apply]

/-- At the cell of one device, only what is owed that device's counts. -/
theorem sum_cells (sm sm' : SemLoc sig) (n : ℕ) (c : Dev nD) :
    (∑ d : Dev nD, (tallyAt ((d : Thread nD τ), sm) () n : CellTallies nD τ sig Unit) ((c : Thread nD τ), sm') ()) = if sm = sm' then n else 0 := by
  rw [Finset.sum_eq_single c]
  · rw [tallyAt_apply]
    by_cases h : sm = sm'
    · rw [if_pos h, if_pos ⟨by rw [h], rfl⟩]
    · rw [if_neg h, if_neg fun h' => h (congrArg Prod.snd h'.1).symm]
  · intro d _ hd
    rw [tallyAt_apply, if_neg fun h' => hd (congrArg (fun g : GSem nD τ sig => g.1.1) h'.1).symm]
  · exact fun h => absurd (Finset.mem_univ _) h

/-- What all devices owe to one cell. -/
theorem owed_sum (c : Dev nD) (sm : SemLoc sig) : (∑ d : Dev nD, O₀ d ((c : Thread nD τ), sm) ())
    = (∑ d ∈ Finset.Ico 1 32, if dmaS (34 + d) = sm then N1 else 0) + ∑ d ∈ Finset.Ico 1 32, if .reg barS = sm then 1 else 0 := by
  unfold O₀ owedRecv owedBar
  simp only [Pi.add_apply, Finsupp.add_apply, sum_apply]
  rw [Finset.sum_add_distrib, sum_around fun c' d => (tallyAt (recvCell c' d) () N1 : CellTallies nD τ sig Unit) ((c : Thread nD τ), sm) (),
    sum_around fun c' d => (tallyAt (barCell c') () 1 : CellTallies nD τ sig Unit) ((c : Thread nD τ), sm) ()]
  exact congrArg₂ (· + ·) (Finset.sum_congr rfl fun d _ => sum_cells (dmaS (34 + d)) sm N1 c)
    (Finset.sum_congr rfl fun d _ => sum_cells (.reg barS) sm 1 c)

/-- The credit of a cell at launch is what is owed to it. -/
theorem launch_at (c : Dev nD) (sm : SemLoc sig) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- A barrier cell is owed 31 units. -/
theorem launch_bar (c : Dev nD) : (∑ d : Dev nD, O₀ d (barCell c) ()) = 31 := by
  rw [owed_sum, Finset.sum_eq_zero fun d _ => if_neg (dma_ne_bar _), Finset.sum_congr rfl fun d _ => if_pos rfl, Finset.sum_const, Nat.card_Ico]
  rfl
/-- A receive cell is owed one block's credit. -/
theorem launch_recv (c : Dev nD) (d : ℕ) (h : 1 ≤ d) (h' : d < 32) : (∑ e : Dev nD, O₀ e (recvCell c d) ()) = N1 := by
  rw [owed_sum, Finset.sum_eq_zero (s := Finset.Ico 1 32) (f := fun _ => if SemLoc.reg barS = dmaS (34 + d) then 1 else 0) fun e _ => if_neg fun h => dma_ne_bar _ h.symm,
    add_zero, Finset.sum_eq_single d]
  · rw [if_pos rfl]
  · intro e he hne
    have := (Finset.mem_Ico.mp he).2
    exact if_neg fun h => hne (by have := dmaS_inj (by omega) (by omega) h; omega)
  · exact fun hn => absurd (Finset.mem_Ico.mpr ⟨h, h'⟩) hn

omit [FloatOps F] in
/-- The DMA semaphores of a family over all semaphores, by number. -/
theorem by_number (s : Finset (SemLoc sig)) (hs : ∀ q : DmaSem sig, SemLoc.dma q ∈ s) (Φ : SemLoc sig → sProp 𝕄) :
    bigSep s Φ ⊢ bigSep (Finset.Ico 0 99) fun v => Φ (dmaS v) := by
  have h : (Finset.univ : Finset (Fin 99)).map ⟨fun q => (SemLoc.dma q : SemLoc sig), fun q q' e => by cases e; rfl⟩ ⊆ s := fun x hx => by
    obtain ⟨q, -, rfl⟩ := Finset.mem_map.mp hx
    exact hs q
  refine (bigSep_subset h).trans ?_
  rw [bigSep_map, ← univ_fin]
  exact Entails.of_eq (bigSep_congr fun q _ => by
    show Φ (.dma q) = Φ (dmaS q.val)
    rw [show (dmaS q.val : SemLoc sig) = .dma q from congrArg SemLoc.dma (Fin.ext (dmaQ_val q.val q.isLt))])

omit [FloatOps F] in
/-- The credit of the waits: the barrier's 31 units, and a block's for every receive from another device. -/
theorem creds (c : Dev nD) : (Pipeline.launchCred O₀ c : sProp 𝕄)
    ⊢ iprop(cred (tallyAt (barCell c) () 31) ∗ bigSep (Finset.Ico 1 32) fun e => cred (tallyAt (recvCell c e) () N1)) := by
  unfold Pipeline.launchCred
  rw [bigSep_univ_at _ (SemLoc.reg barS), launch_at c _ 31 (launch_bar c)]
  refine sep_mono_right ?_
  refine (by_number (Finset.univ.erase (SemLoc.reg barS)) (fun q => Finset.mem_erase.mpr ⟨(fun h => by cases h), Finset.mem_univ _⟩) _).trans ?_
  refine (bigSep_subset (t := Finset.Ico 35 66) fun v hv => ?_).trans ?_
  · rw [Finset.mem_Ico] at hv ⊢; omega
  · rw [show Finset.Ico 35 66 = Finset.Ico (1 + 34) (32 + 34) from rfl, ← moved _ 1 32 34]
    exact Entails.of_eq (bigSep_congr fun d hd => by
      have := Finset.mem_Ico.mp hd
      rw [launch_at c _ N1 (launch_recv c d this.1 this.2)])

end Cert.KernelIdealProof

end
-- ==== Proof.KernelIdealOut.lean ====
/-
The kernel's result as a term over the two buffers that it multiplies.
-/
module

public import proofs.«01_k».proof.Proof.KernelIdealSched
public import Idealize.ShloMosaic.Lib.Pipeline.Value

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Out

variable (c : Dev nD)

/-- The four column blocks of the row buffer that a product reads, from column `o` on; the rows of the buffer for `w` that it reads. -/
abbrev colsFrom (o : ℕ) (h : ∀ a, (![0, o] : Fin 2 → ℕ) a + S128x512.size a ≤ S128x4096.size a) : FVec F S128x512 .bf16 :=
  rM.view.readAt (Elt F) (Rect.unit (s := S128x4096) ![0, o] S128x512.size h).toLoadRect (rbuf m ρ c)
abbrev rowsFrom (o : ℕ) (h : ∀ a, (![o, 0] : Fin 2 → ℕ) a + S512x2048.size a ≤ S4096x2048.size a) : FVec F S512x2048 .f32 :=
  bM.view.readAt (Elt F) (Rect.unit (s := S4096x2048) ![o, 0] S512x2048.size h).toLoadRect (bbuf m ρ c)

/-- The kernel's result: the eight products summed, the last four columns first, and its SiLU. -/
def outAt : S128x2048.Idx → Elt F .f32 :=
  k0_pay10 (k0_pay9 (k0_pay8 (k0_pay7 (k0_pay6 (k0_pay5 (k0_pay4 (k0_pay3 k0_pay2
    (colsFrom m ρ c 3584 inb_S128x4096_S128x512_0_3584) (rowsFrom m ρ c 3584 inb_S4096x2048_S512x2048_3584_0))
    (colsFrom m ρ c 3072 inb_S128x4096_S128x512_0_3072) (rowsFrom m ρ c 3072 inb_S4096x2048_S512x2048_3072_0))
    (colsFrom m ρ c 2560 inb_S128x4096_S128x512_0_2560) (rowsFrom m ρ c 2560 inb_S4096x2048_S512x2048_2560_0))
    (colsFrom m ρ c 2048 inb_S128x4096_S128x512_0_2048) (rowsFrom m ρ c 2048 inb_S4096x2048_S512x2048_2048_0))
    (colsFrom m ρ c 1536 inb_S128x4096_S128x512_0_1536) (rowsFrom m ρ c 1536 inb_S4096x2048_S512x2048_1536_0))
    (colsFrom m ρ c 1024 inb_S128x4096_S128x512_0_1024) (rowsFrom m ρ c 1024 inb_S4096x2048_S512x2048_1024_0))
    (colsFrom m ρ c 512 inb_S128x4096_S128x512_0_512) (rowsFrom m ρ c 512 inb_S4096x2048_S512x2048_512_0))
    (colsFrom m ρ c 0 inb_S128x4096_S128x512_0_0) (rowsFrom m ρ c 0 inb_S4096x2048_S512x2048_0_0)

end Out

end Cert.KernelIdealProof

end
-- ==== Proof.KernelIdealBody.lean ====
/-
The kernel's body, walked from its first signal to its last wait.
-/
module

public import proofs.«01_k».proof.Proof.KernelIdealPhases
public import proofs.«01_k».proof.Proof.KernelIdealOut
public import Idealize.ShloMosaic.Lib.Pipeline.Value

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 98 → ℕ)

section Walk

variable (c : Dev nD)

/-- What the kernel starts from. -/
def Pre : sProp 𝕄 :=
  iprop(Sig m ρ K c 1 ∗ Cpy m ρ K c 0 ∗ ((xL c ↦{fullShare} (xstg m ρ c)) ∗ ∃ f : S4096x128.Idx → Elt F .bf16, sL c ↦{fullShare} f) ∗ Mid c ∗ Late c)

/-- When the copies are under way: the filling's needs. -/
theorem to_fill {A Y : sProp 𝕄} : iprop(Cpy m ρ K c 32 ∗ Sig m ρ K c 32 ∗ A ∗ Mid c ∗ Y) ⊢ iprop(A ∗ Cpy m ρ K c 32 ∗ Sig m ρ K c 32 ∗ Mid c ∗ Y) := by
  iintro ⟨H1, H2, H3, H4⟩
  isplitl [H3]; · iexact H3
  isplitl [H1]; · iexact H1
  isplitl [H2]; · iexact H2
  iexact H4

set_option maxHeartbeats 8000000 in
/-- Part by part: the barrier's signals, the copies of `w`, the send buffer's filling, the local copy, the barrier's wait, the
sends, eight times four receives and four copies with a product, the result's store, the sends' waits. -/
theorem walk52 {Q : (Σ' (_ : Dev nD), BitVec 32) → sProp 𝕄}
    (h : iprop(Don m ρ K c 29 ∗ (oL c ↦{fullShare} (outAt m ρ c)) ∗ Back m ρ c ∗ Rest m ρ c) ⊢ Q ⟨c, Scalar.remsi (Scalar.divsi (Dev.word c) 1#32) 32#32⟩) :
    Pre m ρ K c ⊢ WP c (k0_part52 (F := F) xM (Memref.isWhole_whole _) wM (Memref.isWhole_whole _) oM (Memref.isWhole_whole _) sM (Memref.isWhole_whole _)
      rM (Memref.isWhole_whole _) bM (Memref.isWhole_whole _) cc0_scratch3 cc0_scratch4 cc0_scratch5 cc0_scratch6) Q := by
  unfold Pre
  rw [k0_part52_eq_skeleton]; unfold k0_part52_skel
  apply bind_intro c
  · intro _ hQ
    rw [k0_part1_eq_skeleton]; unfold k0_part1_skel
    simp only [semSignalWord, semWaitWord, Prog.lift, Prog.bind_op, Prog.bind_ret, Prog.pure_eq_ret, wp_deviceId]
    refine step_sig m ρ K c (by decide) (k0_dev1_eq c) ?_
    refine step_sig m ρ K c (by decide) (k0_dev2_eq c) ?_
    refine step_sig m ρ K c (by decide) (k0_dev3_eq c) ?_
    refine step_sig m ρ K c (by decide) (k0_dev4_eq c) ?_
    refine step_sig m ρ K c (by decide) (k0_dev5_eq c) ?_
    refine step_sig m ρ K c (by decide) (k0_dev6_eq c) ?_
    refine step_sig m ρ K c (by decide) (k0_dev7_eq c) ?_
    refine step_sig m ρ K c (by decide) (k0_dev8_eq c) ?_
    exact ret_intro c _ hQ
  apply bind_intro c
  · intro _ hQ
    rw [k0_part2_eq_skeleton]; unfold k0_part2_skel
    simp only [semSignalWord, semWaitWord, Prog.lift, Prog.bind_op, Prog.bind_ret, Prog.pure_eq_ret, wp_deviceId]
    refine step_sig m ρ K c (by decide) (k0_dev9_eq c) ?_
    refine step_sig m ρ K c (by decide) (k0_dev10_eq c) ?_
    refine step_sig m ρ K c (by decide) (k0_dev11_eq c) ?_
    refine step_sig m ρ K c (by decide) (k0_dev12_eq c) ?_
    refine step_sig m ρ K c (by decide) (k0_dev13_eq c) ?_
    refine step_sig m ρ K c (by decide) (k0_dev14_eq c) ?_
    refine step_sig m ρ K c (by decide) (k0_dev15_eq c) ?_
    refine step_sig m ρ K c (by decide) (k0_dev16_eq c) ?_
    refine step_sig m ρ K c (by decide) (k0_dev17_eq c) ?_
    refine step_sig m ρ K c (by decide) (k0_dev18_eq c) ?_
    exact ret_intro c _ hQ
  apply bind_intro c
  · intro _ hQ
    rw [k0_part3_eq_skeleton]; unfold k0_part3_skel
    simp only [semSignalWord, semWaitWord, Prog.lift, Prog.bind_op, Prog.bind_ret, Prog.pure_eq_ret, wp_deviceId]
    refine step_sig m ρ K c (by decide) (k0_dev19_eq c) ?_
    refine step_sig m ρ K c (by decide) (k0_dev20_eq c) ?_
    refine step_sig m ρ K c (by decide) (k0_dev21_eq c) ?_
    refine step_sig m ρ K c (by decide) (k0_dev22_eq c) ?_
    refine step_sig m ρ K c (by decide) (k0_dev23_eq c) ?_
    refine step_sig m ρ K c (by decide) (k0_dev24_eq c) ?_
    refine step_sig m ρ K c (by decide) (k0_dev25_eq c) ?_
    refine step_sig m ρ K c (by decide) (k0_dev26_eq c) ?_
    refine step_sig m ρ K c (by decide) (k0_dev27_eq c) ?_
    refine step_sig m ρ K c (by decide) (k0_dev28_eq c) ?_
    exact ret_intro c _ hQ
  apply bind_intro c
  · intro _ hQ
    rw [k0_part4_eq_skeleton]; unfold k0_part4_skel
    simp only [semSignalWord, semWaitWord, Prog.lift, Prog.bind_op, Prog.bind_ret, Prog.pure_eq_ret, wp_deviceId]
    refine step_sig m ρ K c (by decide) (k0_dev29_eq c) ?_
    refine step_sig m ρ K c (by decide) (k0_dev30_eq c) ?_
    refine step_sig m ρ K c (by decide) (k0_dev31_eq c) ?_
    refine (sep_left_comm (PROP := sProp 𝕄)).1.trans ?_
    iterate 3 refine step_cpy m ρ K c (by decide) rfl _ _ rfl rfl rfl ?_
    exact ret_intro c _ hQ
  apply bind_intro c
  · intro _ hQ
    rw [k0_part5_eq_skeleton]; unfold k0_part5_skel
    simp only [semSignalWord, semWaitWord, Prog.lift, Prog.bind_op, Prog.bind_ret, Prog.pure_eq_ret, wp_deviceId]
    iterate 4 refine step_cpy m ρ K c (by decide) rfl _ _ rfl rfl rfl ?_
    exact ret_intro c _ hQ
  apply bind_intro c
  · intro _ hQ
    rw [k0_part6_eq_skeleton]; unfold k0_part6_skel
    simp only [semSignalWord, semWaitWord, Prog.lift, Prog.bind_op, Prog.bind_ret, Prog.pure_eq_ret, wp_deviceId]
    iterate 4 refine step_cpy m ρ K c (by decide) rfl _ _ rfl rfl rfl ?_
    exact ret_intro c _ hQ
  apply bind_intro c
  · intro _ hQ
    rw [k0_part7_eq_skeleton]; unfold k0_part7_skel
    simp only [semSignalWord, semWaitWord, Prog.lift, Prog.bind_op, Prog.bind_ret, Prog.pure_eq_ret, wp_deviceId]
    iterate 4 refine step_cpy m ρ K c (by decide) rfl _ _ rfl rfl rfl ?_
    exact ret_intro c _ hQ
  apply bind_intro c
  · intro _ hQ
    rw [k0_part8_eq_skeleton]; unfold k0_part8_skel
    simp only [semSignalWord, semWaitWord, Prog.lift, Prog.bind_op, Prog.bind_ret, Prog.pure_eq_ret, wp_deviceId]
    iterate 4 refine step_cpy m ρ K c (by decide) rfl _ _ rfl rfl rfl ?_
    exact ret_intro c _ hQ
  apply bind_intro c
  · intro _ hQ
    rw [k0_part9_eq_skeleton]; unfold k0_part9_skel
    simp only [semSignalWord, semWaitWord, Prog.lift, Prog.bind_op, Prog.bind_ret, Prog.pure_eq_ret, wp_deviceId]
    iterate 4 refine step_cpy m ρ K c (by decide) rfl _ _ rfl rfl rfl ?_
    exact ret_intro c _ hQ
  apply bind_intro c
  · intro _ hQ
    rw [k0_part10_eq_skeleton]; unfold k0_part10_skel
    simp only [semSignalWord, semWaitWord, Prog.lift, Prog.bind_op, Prog.bind_ret, Prog.pure_eq_ret, wp_deviceId]
    iterate 4 refine step_cpy m ρ K c (by decide) rfl _ _ rfl rfl rfl ?_
    exact ret_intro c _ hQ
  apply bind_intro c
  · intro _ hQ
    rw [k0_part11_eq_skeleton]; unfold k0_part11_skel
    simp only [semSignalWord, semWaitWord, Prog.lift, Prog.bind_op, Prog.bind_ret, Prog.pure_eq_ret, wp_deviceId]
    iterate 4 refine step_cpy m ρ K c (by decide) rfl _ _ rfl rfl rfl ?_
    exact ret_intro c _ hQ
  apply bind_intro c
  · intro _ hQ
    rw [k0_part12_eq_skeleton]; unfold k0_part12_skel
    simp only [semSignalWord, semWaitWord, Prog.lift, Prog.bind_op, Prog.bind_ret, Prog.pure_eq_ret, wp_deviceId]
    iterate 1 refine step_cpy m ρ K c (by decide) rfl _ _ rfl rfl rfl ?_
    refine (to_fill m ρ K c).trans ?_
    refine step_fill m ρ c ?_
    refine (to_diag m ρ K c).trans ?_
    refine step_diag m ρ K c rfl _ _ rfl rfl rfl ?_
    refine (sep_left_comm (PROP := sProp 𝕄)).1.trans ?_
    refine step_bar m ρ K c rfl (by decide) ?_
    refine (to_sends m ρ K c).trans ?_
    refine step_snd m ρ K c (by decide) (k0_dev32_eq c) rfl _ _ rfl rfl rfl rfl ?_
    exact ret_intro c _ hQ
  apply bind_intro c
  · intro _ hQ
    rw [k0_part13_eq_skeleton]; unfold k0_part13_skel
    simp only [semSignalWord, semWaitWord, Prog.lift, Prog.bind_op, Prog.bind_ret, Prog.pure_eq_ret, wp_deviceId]
    refine step_snd m ρ K c (by decide) (k0_dev33_eq c) rfl _ _ rfl rfl rfl rfl ?_
    refine step_snd m ρ K c (by decide) (k0_dev34_eq c) rfl _ _ rfl rfl rfl rfl ?_
    exact ret_intro c _ hQ
  apply bind_intro c
  · intro _ hQ
    rw [k0_part14_eq_skeleton]; unfold k0_part14_skel
    simp only [semSignalWord, semWaitWord, Prog.lift, Prog.bind_op, Prog.bind_ret, Prog.pure_eq_ret, wp_deviceId]
    refine step_snd m ρ K c (by decide) (k0_dev35_eq c) rfl _ _ rfl rfl rfl rfl ?_
    refine step_snd m ρ K c (by decide) (k0_dev36_eq c) rfl _ _ rfl rfl rfl rfl ?_
    refine step_snd m ρ K c (by decide) (k0_dev37_eq c) rfl _ _ rfl rfl rfl rfl ?_
    exact ret_intro c _ hQ
  apply bind_intro c
  · intro _ hQ
    rw [k0_part15_eq_skeleton]; unfold k0_part15_skel
    simp only [semSignalWord, semWaitWord, Prog.lift, Prog.bind_op, Prog.bind_ret, Prog.pure_eq_ret, wp_deviceId]
    refine step_snd m ρ K c (by decide) (k0_dev38_eq c) rfl _ _ rfl rfl rfl rfl ?_
    refine step_snd m ρ K c (by decide) (k0_dev39_eq c) rfl _ _ rfl rfl rfl rfl ?_
    refine step_snd m ρ K c (by decide) (k0_dev40_eq c) rfl _ _ rfl rfl rfl rfl ?_
    exact ret_intro c _ hQ
  apply bind_intro c
  · intro _ hQ
    rw [k0_part16_eq_skeleton]; unfold k0_part16_skel
    simp only [semSignalWord, semWaitWord, Prog.lift, Prog.bind_op, Prog.bind_ret, Prog.pure_eq_ret, wp_deviceId]
    refine step_snd m ρ K c (by decide) (k0_dev41_eq c) rfl _ _ rfl rfl rfl rfl ?_
    refine step_snd m ρ K c (by decide) (k0_dev42_eq c) rfl _ _ rfl rfl rfl rfl ?_
    refine step_snd m ρ K c (by decide) (k0_dev43_eq c) rfl _ _ rfl rfl rfl rfl ?_
    exact ret_intro c _ hQ
  apply bind_intro c
  · intro _ hQ
    rw [k0_part17_eq_skeleton]; unfold k0_part17_skel
    simp only [semSignalWord, semWaitWord, Prog.lift, Prog.bind_op, Prog.bind_ret, Prog.pure_eq_ret, wp_deviceId]
    refine step_snd m ρ K c (by decide) (k0_dev44_eq c) rfl _ _ rfl rfl rfl rfl ?_
    refine step_snd m ρ K c (by decide) (k0_dev45_eq c) rfl _ _ rfl rfl rfl rfl ?_
    exact ret_intro c _ hQ
  apply bind_intro c
  · intro _ hQ
    rw [k0_part18_eq_skeleton]; unfold k0_part18_skel
    simp only [semSignalWord, semWaitWord, Prog.lift, Prog.bind_op, Prog.bind_ret, Prog.pure_eq_ret, wp_deviceId]
    refine step_snd m ρ K c (by decide) (k0_dev46_eq c) rfl _ _ rfl rfl rfl rfl ?_
    refine step_snd m ρ K c (by decide) (k0_dev47_eq c) rfl _ _ rfl rfl rfl rfl ?_
    refine step_snd m ρ K c (by decide) (k0_dev48_eq c) rfl _ _ rfl rfl rfl rfl ?_
    exact ret_intro c _ hQ
  apply bind_intro c
  · intro _ hQ
    rw [k0_part19_eq_skeleton]; unfold k0_part19_skel
    simp only [semSignalWord, semWaitWord, Prog.lift, Prog.bind_op, Prog.bind_ret, Prog.pure_eq_ret, wp_deviceId]
    refine step_snd m ρ K c (by decide) (k0_dev49_eq c) rfl _ _ rfl rfl rfl rfl ?_
    refine step_snd m ρ K c (by decide) (k0_dev50_eq c) rfl _ _ rfl rfl rfl rfl ?_
    refine step_snd m ρ K c (by decide) (k0_dev51_eq c) rfl _ _ rfl rfl rfl rfl ?_
    exact ret_intro c _ hQ
  apply bind_intro c
  · intro _ hQ
    rw [k0_part20_eq_skeleton]; unfold k0_part20_skel
    simp only [semSignalWord, semWaitWord, Prog.lift, Prog.bind_op, Prog.bind_ret, Prog.pure_eq_ret, wp_deviceId]
    refine step_snd m ρ K c (by decide) (k0_dev52_eq c) rfl _ _ rfl rfl rfl rfl ?_
    refine step_snd m ρ K c (by decide) (k0_dev53_eq c) rfl _ _ rfl rfl rfl rfl ?_
    exact ret_intro c _ hQ
  apply bind_intro c
  · intro _ hQ
    rw [k0_part21_eq_skeleton]; unfold k0_part21_skel
    simp only [semSignalWord, semWaitWord, Prog.lift, Prog.bind_op, Prog.bind_ret, Prog.pure_eq_ret, wp_deviceId]
    refine step_snd m ρ K c (by decide) (k0_dev54_eq c) rfl _ _ rfl rfl rfl rfl ?_
    refine step_snd m ρ K c (by decide) (k0_dev55_eq c) rfl _ _ rfl rfl rfl rfl ?_
    refine step_snd m ρ K c (by decide) (k0_dev56_eq c) rfl _ _ rfl rfl rfl rfl ?_
    exact ret_intro c _ hQ
  apply bind_intro c
  · intro _ hQ
    rw [k0_part22_eq_skeleton]; unfold k0_part22_skel
    simp only [semSignalWord, semWaitWord, Prog.lift, Prog.bind_op, Prog.bind_ret, Prog.pure_eq_ret, wp_deviceId]
    refine step_snd m ρ K c (by decide) (k0_dev57_eq c) rfl _ _ rfl rfl rfl rfl ?_
    refine step_snd m ρ K c (by decide) (k0_dev58_eq c) rfl _ _ rfl rfl rfl rfl ?_
    refine step_snd m ρ K c (by decide) (k0_dev59_eq c) rfl _ _ rfl rfl rfl rfl ?_
    exact ret_intro c _ hQ
  apply bind_intro c
  · intro _ hQ
    rw [k0_part23_eq_skeleton]; unfold k0_part23_skel
    simp only [semSignalWord, semWaitWord, Prog.lift, Prog.bind_op, Prog.bind_ret, Prog.pure_eq_ret, wp_deviceId]
    refine step_snd m ρ K c (by decide) (k0_dev60_eq c) rfl _ _ rfl rfl rfl rfl ?_
    refine step_snd m ρ K c (by decide) (k0_dev61_eq c) rfl _ _ rfl rfl rfl rfl ?_
    refine step_snd m ρ K c (by decide) (k0_dev62_eq c) rfl _ _ rfl rfl rfl rfl ?_
    refine (to_gets m ρ K c).trans ?_
    exact ret_intro c _ hQ
  apply bind_intro c
  · intro _ hQ
    rw [k0_part24_eq_skeleton]; unfold k0_part24_skel
    simp only [semSignalWord, semWaitWord, Prog.lift, Prog.bind_op, Prog.bind_ret, Prog.pure_eq_ret, wp_deviceId]
    iterate 3 refine step_rcv m ρ K c (by decide) rfl (by exact rfl) ?_
    exact ret_intro c _ hQ
  apply bind_intro c
  · intro _ hQ
    rw [k0_part25_eq_skeleton]; unfold k0_part25_skel
    simp only [semSignalWord, semWaitWord, Prog.lift, Prog.bind_op, Prog.bind_ret, Prog.pure_eq_ret, wp_deviceId]
    iterate 1 refine step_rcv m ρ K c (by decide) rfl (by exact rfl) ?_
    iterate 2 refine step_got m ρ K c (by decide) rfl (by exact rfl) ?_
    exact ret_intro c _ hQ
  apply bind_intro c
  · intro _ hQ
    rw [k0_part26_eq_skeleton]; unfold k0_part26_skel
    simp only [semSignalWord, semWaitWord, Prog.lift, Prog.bind_op, Prog.bind_ret, Prog.pure_eq_ret, wp_deviceId]
    iterate 2 refine step_got m ρ K c (by decide) rfl (by exact rfl) ?_
    refine step_ldr m ρ K c rfl (cols_read 5 3584 inb_S128x4096_S128x512_0_3584 (by decide)) ?_
    refine step_ldw m ρ K c rfl (rows_read 4 3584 inb_S4096x2048_S512x2048_3584_0 (by decide) (by decide)) ?_
    iterate 1 refine step_rcv m ρ K c (by decide) rfl (by exact rfl) ?_
    exact ret_intro c _ hQ
  apply bind_intro c
  · intro _ hQ
    rw [k0_part27_eq_skeleton]; unfold k0_part27_skel
    simp only [semSignalWord, semWaitWord, Prog.lift, Prog.bind_op, Prog.bind_ret, Prog.pure_eq_ret, wp_deviceId]
    iterate 3 refine step_rcv m ρ K c (by decide) rfl (by exact rfl) ?_
    exact ret_intro c _ hQ
  apply bind_intro c
  · intro _ hQ
    rw [k0_part28_eq_skeleton]; unfold k0_part28_skel
    simp only [semSignalWord, semWaitWord, Prog.lift, Prog.bind_op, Prog.bind_ret, Prog.pure_eq_ret, wp_deviceId]
    iterate 4 refine step_got m ρ K c (by decide) rfl (by exact rfl) ?_
    refine step_ldr m ρ K c rfl (cols_read 9 3072 inb_S128x4096_S128x512_0_3072 (by decide)) ?_
    refine step_ldw m ρ K c rfl (rows_read 8 3072 inb_S4096x2048_S512x2048_3072_0 (by decide) (by decide)) ?_
    exact ret_intro c _ hQ
  apply bind_intro c
  · intro _ hQ
    rw [k0_part29_eq_skeleton]; unfold k0_part29_skel
    simp only [semSignalWord, semWaitWord, Prog.lift, Prog.bind_op, Prog.bind_ret, Prog.pure_eq_ret, wp_deviceId]
    iterate 3 refine step_rcv m ρ K c (by decide) rfl (by exact rfl) ?_
    exact ret_intro c _ hQ
  apply bind_intro c
  · intro _ hQ
    rw [k0_part30_eq_skeleton]; unfold k0_part30_skel
    simp only [semSignalWord, semWaitWord, Prog.lift, Prog.bind_op, Prog.bind_ret, Prog.pure_eq_ret, wp_deviceId]
    iterate 1 refine step_rcv m ρ K c (by decide) rfl (by exact rfl) ?_
    iterate 2 refine step_got m ρ K c (by decide) rfl (by exact rfl) ?_
    exact ret_intro c _ hQ
  apply bind_intro c
  · intro _ hQ
    rw [k0_part31_eq_skeleton]; unfold k0_part31_skel
    simp only [semSignalWord, semWaitWord, Prog.lift, Prog.bind_op, Prog.bind_ret, Prog.pure_eq_ret, wp_deviceId]
    iterate 2 refine step_got m ρ K c (by decide) rfl (by exact rfl) ?_
    refine step_ldr m ρ K c rfl (cols_read 13 2560 inb_S128x4096_S128x512_0_2560 (by decide)) ?_
    refine step_ldw m ρ K c rfl (rows_read 12 2560 inb_S4096x2048_S512x2048_2560_0 (by decide) (by decide)) ?_
    iterate 1 refine step_rcv m ρ K c (by decide) rfl (by exact rfl) ?_
    exact ret_intro c _ hQ
  apply bind_intro c
  · intro _ hQ
    rw [k0_part32_eq_skeleton]; unfold k0_part32_skel
    simp only [semSignalWord, semWaitWord, Prog.lift, Prog.bind_op, Prog.bind_ret, Prog.pure_eq_ret, wp_deviceId]
    iterate 3 refine step_rcv m ρ K c (by decide) rfl (by exact rfl) ?_
    exact ret_intro c _ hQ
  apply bind_intro c
  · intro _ hQ
    rw [k0_part33_eq_skeleton]; unfold k0_part33_skel
    simp only [semSignalWord, semWaitWord, Prog.lift, Prog.bind_op, Prog.bind_ret, Prog.pure_eq_ret, wp_deviceId]
    iterate 4 refine step_got m ρ K c (by decide) rfl (by exact rfl) ?_
    refine step_ldr m ρ K c rfl (cols_read 17 2048 inb_S128x4096_S128x512_0_2048 (by decide)) ?_
    refine step_ldw m ρ K c rfl (rows_read 16 2048 inb_S4096x2048_S512x2048_2048_0 (by decide) (by decide)) ?_
    exact ret_intro c _ hQ
  apply bind_intro c
  · intro _ hQ
    rw [k0_part34_eq_skeleton]; unfold k0_part34_skel
    simp only [semSignalWord, semWaitWord, Prog.lift, Prog.bind_op, Prog.bind_ret, Prog.pure_eq_ret, wp_deviceId]
    iterate 3 refine step_rcv m ρ K c (by decide) rfl (by exact rfl) ?_
    exact ret_intro c _ hQ
  apply bind_intro c
  · intro _ hQ
    rw [k0_part35_eq_skeleton]; unfold k0_part35_skel
    simp only [semSignalWord, semWaitWord, Prog.lift, Prog.bind_op, Prog.bind_ret, Prog.pure_eq_ret, wp_deviceId]
    iterate 1 refine step_rcv m ρ K c (by decide) rfl (by exact rfl) ?_
    iterate 2 refine step_got m ρ K c (by decide) rfl (by exact rfl) ?_
    exact ret_intro c _ hQ
  apply bind_intro c
  · intro _ hQ
    rw [k0_part36_eq_skeleton]; unfold k0_part36_skel
    simp only [semSignalWord, semWaitWord, Prog.lift, Prog.bind_op, Prog.bind_ret, Prog.pure_eq_ret, wp_deviceId]
    iterate 2 refine step_got m ρ K c (by decide) rfl (by exact rfl) ?_
    refine step_ldr m ρ K c rfl (cols_read 21 1536 inb_S128x4096_S128x512_0_1536 (by decide)) ?_
    refine step_ldw m ρ K c rfl (rows_read 20 1536 inb_S4096x2048_S512x2048_1536_0 (by decide) (by decide)) ?_
    iterate 1 refine step_rcv m ρ K c (by decide) rfl (by exact rfl) ?_
    exact ret_intro c _ hQ
  apply bind_intro c
  · intro _ hQ
    rw [k0_part37_eq_skeleton]; unfold k0_part37_skel
    simp only [semSignalWord, semWaitWord, Prog.lift, Prog.bind_op, Prog.bind_ret, Prog.pure_eq_ret, wp_deviceId]
    iterate 3 refine step_rcv m ρ K c (by decide) rfl (by exact rfl) ?_
    exact ret_intro c _ hQ
  apply bind_intro c
  · intro _ hQ
    rw [k0_part38_eq_skeleton]; unfold k0_part38_skel
    simp only [semSignalWord, semWaitWord, Prog.lift, Prog.bind_op, Prog.bind_ret, Prog.pure_eq_ret, wp_deviceId]
    iterate 4 refine step_got m ρ K c (by decide) rfl (by exact rfl) ?_
    refine step_ldr m ρ K c rfl (cols_read 25 1024 inb_S128x4096_S128x512_0_1024 (by decide)) ?_
    refine step_ldw m ρ K c rfl (rows_read 24 1024 inb_S4096x2048_S512x2048_1024_0 (by decide) (by decide)) ?_
    exact ret_intro c _ hQ
  apply bind_intro c
  · intro _ hQ
    rw [k0_part39_eq_skeleton]; unfold k0_part39_skel
    simp only [semSignalWord, semWaitWord, Prog.lift, Prog.bind_op, Prog.bind_ret, Prog.pure_eq_ret, wp_deviceId]
    iterate 3 refine step_rcv m ρ K c (by decide) rfl (by exact rfl) ?_
    exact ret_intro c _ hQ
  apply bind_intro c
  · intro _ hQ
    rw [k0_part40_eq_skeleton]; unfold k0_part40_skel
    simp only [semSignalWord, semWaitWord, Prog.lift, Prog.bind_op, Prog.bind_ret, Prog.pure_eq_ret, wp_deviceId]
    iterate 1 refine step_rcv m ρ K c (by decide) rfl (by exact rfl) ?_
    iterate 2 refine step_got m ρ K c (by decide) rfl (by exact rfl) ?_
    exact ret_intro c _ hQ
  apply bind_intro c
  · intro _ hQ
    rw [k0_part41_eq_skeleton]; unfold k0_part41_skel
    simp only [semSignalWord, semWaitWord, Prog.lift, Prog.bind_op, Prog.bind_ret, Prog.pure_eq_ret, wp_deviceId]
    iterate 2 refine step_got m ρ K c (by decide) rfl (by exact rfl) ?_
    refine step_ldr m ρ K c rfl (cols_read 29 512 inb_S128x4096_S128x512_0_512 (by decide)) ?_
    refine step_ldw m ρ K c rfl (rows_read 28 512 inb_S4096x2048_S512x2048_512_0 (by decide) (by decide)) ?_
    iterate 1 refine step_rcv m ρ K c (by decide) rfl (by exact rfl) ?_
    exact ret_intro c _ hQ
  apply bind_intro c
  · intro _ hQ
    rw [k0_part42_eq_skeleton]; unfold k0_part42_skel
    simp only [semSignalWord, semWaitWord, Prog.lift, Prog.bind_op, Prog.bind_ret, Prog.pure_eq_ret, wp_deviceId]
    iterate 3 refine step_rcv m ρ K c (by decide) rfl (by exact rfl) ?_
    iterate 1 refine step_got m ρ K c (by decide) rfl (by exact rfl) ?_
    exact ret_intro c _ hQ
  apply bind_intro c
  · intro _ hQ
    rw [k0_part43_eq_skeleton]; unfold k0_part43_skel
    simp only [semSignalWord, semWaitWord, Prog.lift, Prog.bind_op, Prog.bind_ret, Prog.pure_eq_ret, wp_deviceId]
    iterate 3 refine step_got m ρ K c (by decide) rfl (by exact rfl) ?_
    refine step_ldr m ρ K c rfl (cols_read 33 0 inb_S128x4096_S128x512_0_0 (by decide)) ?_
    refine step_ldw m ρ K c rfl (rows_read 32 0 inb_S4096x2048_S512x2048_0_0 (by decide) (by decide)) ?_
    refine step_out c ?_
    refine (to_dons m ρ K c).trans ?_
    exact ret_intro c _ hQ
  apply bind_intro c
  · intro _ hQ
    rw [k0_part44_eq_skeleton]; unfold k0_part44_skel
    simp only [semSignalWord, semWaitWord, Prog.lift, Prog.bind_op, Prog.bind_ret, Prog.pure_eq_ret, wp_deviceId]
    iterate 3 refine step_fin m ρ K c (by decide) rfl (by exact rfl) ?_
    exact ret_intro c _ hQ
  apply bind_intro c
  · intro _ hQ
    rw [k0_part45_eq_skeleton]; unfold k0_part45_skel
    simp only [semSignalWord, semWaitWord, Prog.lift, Prog.bind_op, Prog.bind_ret, Prog.pure_eq_ret, wp_deviceId]
    iterate 4 refine step_fin m ρ K c (by decide) rfl (by exact rfl) ?_
    exact ret_intro c _ hQ
  apply bind_intro c
  · intro _ hQ
    rw [k0_part46_eq_skeleton]; unfold k0_part46_skel
    simp only [semSignalWord, semWaitWord, Prog.lift, Prog.bind_op, Prog.bind_ret, Prog.pure_eq_ret, wp_deviceId]
    iterate 3 refine step_fin m ρ K c (by decide) rfl (by exact rfl) ?_
    exact ret_intro c _ hQ
  apply bind_intro c
  · intro _ hQ
    rw [k0_part47_eq_skeleton]; unfold k0_part47_skel
    simp only [semSignalWord, semWaitWord, Prog.lift, Prog.bind_op, Prog.bind_ret, Prog.pure_eq_ret, wp_deviceId]
    iterate 4 refine step_fin m ρ K c (by decide) rfl (by exact rfl) ?_
    exact ret_intro c _ hQ
  apply bind_intro c
  · intro _ hQ
    rw [k0_part48_eq_skeleton]; unfold k0_part48_skel
    simp only [semSignalWord, semWaitWord, Prog.lift, Prog.bind_op, Prog.bind_ret, Prog.pure_eq_ret, wp_deviceId]
    iterate 3 refine step_fin m ρ K c (by decide) rfl (by exact rfl) ?_
    exact ret_intro c _ hQ
  apply bind_intro c
  · intro _ hQ
    rw [k0_part49_eq_skeleton]; unfold k0_part49_skel
    simp only [semSignalWord, semWaitWord, Prog.lift, Prog.bind_op, Prog.bind_ret, Prog.pure_eq_ret, wp_deviceId]
    iterate 4 refine step_fin m ρ K c (by decide) rfl (by exact rfl) ?_
    exact ret_intro c _ hQ
  apply bind_intro c
  · intro _ hQ
    rw [k0_part50_eq_skeleton]; unfold k0_part50_skel
    simp only [semSignalWord, semWaitWord, Prog.lift, Prog.bind_op, Prog.bind_ret, Prog.pure_eq_ret, wp_deviceId]
    iterate 3 refine step_fin m ρ K c (by decide) rfl (by exact rfl) ?_
    exact ret_intro c _ hQ
  apply bind_intro c
  · intro _ hQ
    rw [k0_part51_eq_skeleton]; unfold k0_part51_skel
    simp only [semSignalWord, semWaitWord, Prog.lift, Prog.bind_op, Prog.bind_ret, Prog.pure_eq_ret, wp_deviceId]
    iterate 4 refine step_fin m ρ K c (by decide) rfl (by exact rfl) ?_
    exact ret_intro c _ hQ
  exact ret_intro c _ h

/-- The whole body. -/
theorem walk : Pre m ρ K c ⊢ WP c (cc0_body (F := F) xM (Memref.isWhole_whole _) wM (Memref.isWhole_whole _) oM (Memref.isWhole_whole _) sM (Memref.isWhole_whole _)
      rM (Memref.isWhole_whole _) bM (Memref.isWhole_whole _) cc0_scratch3 cc0_scratch4 cc0_scratch5 cc0_scratch6) (fun _ => Post m ρ c (outAt m ρ c)) := by
  rw [cc0_body_eq_skeleton]; unfold cc0_body_skel
  apply bind_intro c
  · intro _ hQ
    exact walk52 m ρ K c hQ
  simp only [semSignalWord, semWaitWord, Prog.lift, Prog.bind_op, Prog.bind_ret, Prog.pure_eq_ret, wp_deviceId]
  iterate 3 refine step_fin m ρ K c (by decide) rfl (by exact rfl) ?_
  refine (to_post m ρ K c _).trans ?_
  unfold WP; rw [wp_ret]

end Walk

end Cert.KernelIdealProof

end
-- ==== Proof.KernelIdealRun.lean ====
/-
The kernel's run on the mesh: from any memory, every execution ends with each device's result at the computed contents.
-/
module

public import proofs.«01_k».proof.Proof.KernelIdealStart
public import proofs.«01_k».proof.Proof.KernelIdealBody
public import Idealize.ShloMosaic.Lib.Pipeline.ValueKit
public import Idealize.ShloMosaic.Lib.Pipeline.CollectiveSegs

@[expose] public section

noncomputable section

namespace Cert.KernelIdealProof

open Cert.KernelIdeal Cert.KernelIdeal.Gen Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The grid has one point. -/
theorem cfg0_N : cfg0.N = 1 := by decide
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- What device `c`'s body starts from, its scratch buffers aside. -/
def start (c : Dev nD) : sProp 𝕄 :=
  iprop((∃ K, recs m ρ K) ∗ linear c ∗ (cred (tallyAt (barCell c) () 31) ∗ bigSep (Finset.Ico 1 32) fun e => cred (tallyAt (recvCell c e) () N1))
    ∗ (wL c ↦{fullShare} (wAt m ρ c)))

def Φ₀ (c : Dev nD) : sProp 𝕄 :=
  iprop(start m ρ c ∗ (∃ f : S4096x128.Idx → Elt F .bf16, sL c ↦{fullShare} f) ∗ (∃ f : S128x4096.Idx → Elt F .bf16, rL c ↦{fullShare} f)
    ∗ (∃ f : S4096x2048.Idx → Elt F .f32, bL c ↦{fullShare} f))
/-- After the point: the buffers whole, every semaphore at zero. -/
def Φ₁ (c : Dev nD) : sProp 𝕄 :=
  iprop((sL c ↦{fullShare} (sbuf m ρ c)) ∗ (rL c ↦{fullShare} (rbuf m ρ c)) ∗ (bL c ↦{fullShare} (bbuf m ρ c)) ∗ (wL c ↦{fullShare} (wAt m ρ c))
    ∗ semVal (barCell c) 0 ∗ bigSep (Finset.Ico 2 99) (fun v => semVal (dmaCell c v) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A conjunction over the windows is one over the two of them. -/
theorem bigSep_W (Φ : Fin cfg0.W → sProp 𝕄) : bigSep Finset.univ Φ = iprop(Φ (0 : Fin 2) ∗ Φ (1 : Fin 2)) := bigSep_W0 Φ

/-- The window on `x` is fetched at the grid point. -/
theorem fetch_0 (t : Fin cfg0.N) : (cfg0.win (0 : Fin 2)).fetch t = true := by rw [fin_N t]; rfl

/-- Owning a whole memref is owning its buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- The cells' positions and the receives' credit, as the phases take them. -/
theorem to_cells (c : Dev nD) : iprop(bigSep (Finset.Ico 2 99) (start0 (F := F) c) ∗ bigSep (Finset.Ico 1 32) fun e => cred (tallyAt (recvCell c e) () N1))
    ⊢ (Cells c : sProp 𝕄) := by
  unfold Cells
  rw [cells_eq (start0 (F := F) c), in_order (fun k => start0 (F := F) c (67 + k)), moved (start0 (F := F) c), moved (start0 (F := F) c), moved (start0 (F := F) c)]
  iintro ⟨⟨H2, Hs, H34, Hr, Hw⟩, Hc⟩
  isplitl [Hr]; · iexact Hr
  isplitl [Hc]; · iexact Hc
  isplitl [Hw]; · iexact Hw
  isplitl [Hs]; · iexact Hs
  isplitl [H2] <;> iassumption

/-- The signals' duties, each with the columns that it lets another device write; the device's own columns besides. -/
theorem to_sigs (c : Dev nD) (f : S128x4096.Idx → Elt F .bf16) :
    iprop(bigSep (Finset.Ico 1 32) (fun d => dutyTok ER (barCell (dv c d)) 0 d) ∗ (rL c ↦{fullShare} f))
      ⊢ (iprop(bigSep (Finset.Ico 1 32) (sigItem (F := F) c) ∗ ∃ f, rP (F := F) c 0 f) : sProp 𝕄) := by
  have h : iprop(bigSep (Finset.Ico 1 32) (fun d => dutyTok ER (barCell (dv c d)) 0 d) ∗ bigSep (Finset.Ico 1 32) (fun d => rP c d f))
      ⊢ (bigSep (Finset.Ico 1 32) (sigItem (F := F) c) : sProp 𝕄) := by
    rw [← bigSep_sep']
    refine bigSep_mono fun d _ => ?_
    show iprop(dutyTok ER (barCell (dv c d)) 0 d ∗ rP c d f) ⊢ _
    unfold sigItem
    iintro ⟨H1, H2⟩
    isplitl [H1]; · iexact H1
    iexists f; iexact H2
  rw [blocks_eq colB 32 colB_lt]
  show iprop(bigSep (Finset.Ico 1 32) (fun d => dutyTok ER (barCell (dv c d)) 0 d) ∗ bigSep (Finset.Ico 0 32) (fun j => rP c j f)) ⊢ _
  rw [ico_first (by decide : 0 < 32)]
  iintro ⟨Ht, H0, Hr⟩
  isplitl [Ht Hr]
  · iapply h; isplitl [Ht] <;> iassumption
  iexists f; iexact H0

/-- The copies' duties, each with the rows of `w` that it reads and those that it writes. -/
theorem to_cpys (c : Dev nD) (f : S4096x2048.Idx → Elt F .f32) :
    iprop(bigSep (Finset.Ico 0 32) (fun e => dutyTok ER (wCell c (ord e)) 0 0) ∗ (bL c ↦{fullShare} f) ∗ (wL c ↦{fullShare} (wAt m ρ c)))
      ⊢ (bigSep (Finset.Ico 0 32) (cpyItem m ρ c) : sProp 𝕄) := by
  rw [blocks_eq rowB 32 rowB_lt, ws_eq]
  show iprop(bigSep (Finset.Ico 0 32) (fun e => dutyTok ER (wCell c (ord e)) 0 0) ∗ bigSep (Finset.Ico 0 32) (fun j => bP c j f)
    ∗ bigSep (Finset.Ico 0 32) fun e => wP m ρ c ((ord e + c.val) % 32)) ⊢ _
  rw [← in_order fun j => bP c j f, ← bigSep_sep', ← bigSep_sep']
  refine bigSep_mono fun d _ => ?_
  show iprop(dutyTok ER (wCell c (ord d)) 0 0 ∗ bP c (ord d) f ∗ wP m ρ c ((ord d + c.val) % 32)) ⊢ _
  unfold cpyItem
  iintro ⟨H1, H2, H3⟩
  isplitl [H1]; · iexact H1
  isplitl [H2]; · iexists f; iexact H2
  iexact H3

set_option maxRecDepth 20000 in
/-- What the launch leaves is what the walk starts from. -/
theorem to_pre (c : Dev nD) : iprop(Φ₀ m ρ c ∗ owesE c (O₀ c) ∗ (xL c ↦{fullShare} (xstg m ρ c)) ∗ ∃ g : S128x2048.Idx → Elt F .f32, oL c ↦{fullShare} g)
    ⊢ (iprop(∃ K, Pre m ρ K c) : sProp 𝕄) := by
  unfold Φ₀ start linear payToks ownPay
  iintro ⟨⟨⟨⟨%K, #HR⟩, ⟨⟨Hpb, Hp⟩, Htb, Htr, Hts, Ht32, Htw⟩, ⟨Hcb, Hcr⟩, HwL⟩, Hs, ⟨%fr, Hr⟩, ⟨%fb, Hb⟩⟩, Ho, Hx, Hout⟩
  ihave Hsig := (to_sigs c fr) $$ [Htb Hr]
  · isplitl [Htb] <;> iassumption
  icases Hsig with ⟨Hsig, Hr0⟩
  ihave Hcpy := (to_cpys m ρ c fb) $$ [Htw Hb HwL]
  · isplitl [Htw]; · iexact Htw
    isplitl [Hb] <;> iassumption
  ihave Hcells := (to_cells (F := F) c) $$ [Hp Hcr]
  · isplitl [Hp] <;> iassumption
  ihave Htk := (show iprop(bigSep (Finset.Ico 1 32) (fun d => dutyTok ER (sendCell c d) 0 0) ∗ bigSep (Finset.Ico 1 32) (fun d => dutyTok ER (recvCell (dv c d) d) 0 0))
      ⊢ (toks c : sProp 𝕄) from by unfold toks; rw [bigSep_sep']) $$ [Hts Htr]
  · isplitl [Hts] <;> iassumption
  iexists K
  unfold Pre Sig Cpy Mid Late
  isplitl [Ho Hsig]
  · isplitr; · iexact HR
    isplitl [Ho]; · iexact Ho
    iexact Hsig
  isplitl [Hcpy]
  · isplitr; · iexact HR
    isplitl [Hcpy]; · iexact Hcpy
    rw [ico_nil]; iempintro
  isplitl [Hx Hs]
  · isplitl [Hx] <;> iassumption
  isplitl [Ht32 Hr0 Hcb Hpb Htk]
  · isplitl [Ht32]; · iexact Ht32
    isplitl [Hr0]; · iexact Hr0
    isplitl [Hcb]; · iexact Hcb
    isplitl [Hpb]; · iexact Hpb
    iexact Htk
  isplitl [Hout]; · iexact Hout
  iexact Hcells

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- What the walk leaves is what the pipeline expects after its point. -/
theorem of_post (c : Dev nD) : Post m ρ c (outAt m ρ c) ⊢ bodyPost m ρ c := by
  unfold Post bodyPost Φ₁ owesE Dat.owesAt Pipeline.owesWithin
  rw [show (dats m ρ 0 c).owed t₀.succ = 0 from rfl]
  iintro ⟨Hx, Hout, Hs, Hr, Hb, Hw, Hz, Hzs, ⟨%W, Ho⟩⟩
  isplitl [Hs Hr Hb Hw Hz Hzs]
  · isplitl [Hs]; · iexact Hs
    isplitl [Hr]; · iexact Hr
    isplitl [Hb]; · iexact Hb
    isplitl [Hw]; · iexact Hw
    isplitl [Hz] <;> iassumption
  isplitl [Ho]
  · iexists W; isplitr; · (ipureintro; exact fun _ _ => Or.inl trivial)
    iexact Ho
  isplitl [Hx]
  · iexists (xstg m ρ c); isplitr; · (ipureintro; rfl)
    iexact Hx
  iexists (outAt m ρ c); isplitr; · (ipureintro; rfl)
  iexact Hout

/-- What the pipeline gives the body at its start, in the form in which the body is proved. -/
theorem of_before (c : Dev nD) : bodyPre m ρ c
    ⊢ iprop(Φ₀ m ρ c ∗ owesE c (O₀ c) ∗ (xL c ↦{fullShare} (xstg m ρ c)) ∗ ∃ g : S128x2048.Idx → Elt F .f32, oL c ↦{fullShare} g) := by
  unfold bodyPre owesE Dat.owesAt Pipeline.owesWithin
  rw [show (dats m ρ 0 c).owed t₀.castSucc = O₀ c from rfl]
  iintro ⟨HΦ, ⟨%W, %hW, HO⟩, ⟨%d0, %g0, %hg0, Hx⟩, ⟨%d1, %g1, -, Hout⟩⟩
  have hx : g0 = xstg m ρ c := by rw [hg0]; unfold Dat.before; rw [if_pos (fetch_0 t₀)]; rfl
  subst hx
  isplitl [HΦ]; · iexact HΦ
  isplitl [HO]; · iexists W; iexact HO
  isplitl [Hx]; · iexact Hx
  iexists g1; iexact Hout

/-- A program's post may be weakened. -/
theorem weaken (c : Dev nD) {α : Type} (p : Prog (TpuEff nD τ sig (Elt F) Λ₀ .tc) α) {Q Q' : α → sProp 𝕄} (h : ∀ a, Q a ⊢ Q' a) : WP c p Q ⊢ WP c p Q' :=
  (wp frame (wpE (defs₀ (F := F)) 𝒱₀ (c : Thread nD τ) none) Set.univ p).mono h

set_option maxRecDepth 20000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) sM (Memref.isWhole_whole _)
      rM (Memref.isWhole_whole _) bM (Memref.isWhole_whole _) cc0_scratch3 cc0_scratch4 cc0_scratch5 cc0_scratch6) (fun _ => bodyPost m ρ c)
  refine ((of_before m ρ c).trans (to_pre m ρ c)).trans ?_
  iintro ⟨%K, H⟩
  iapply (show Pre m ρ K c ⊢ wp frame (wpE (defs₀ (F := F)) 𝒱₀ c none) Set.univ
    (cc0_body xM (Memref.isWhole_whole _) wM (Memref.isWhole_whole _) oM (Memref.isWhole_whole _) sM (Memref.isWhole_whole _)
      rM (Memref.isWhole_whole _) bM (Memref.isWhole_whole _) cc0_scratch3 cc0_scratch4 cc0_scratch5 cc0_scratch6) (fun _ => bodyPost m ρ c) from
    (walk m ρ K c).trans (weaken c _ fun _ => of_post m ρ c))
  iexact H

/-! ## The launch -/

/-- Every window is held in full. -/
theorem share_eq (c : Dev nD) (w : Fin cfg0.W) : (dats (F := F) m ρ 0 c).share w = fullShare := by unfold Dat.share; split <;> rfl

set_option maxRecDepth 20000 in
/-- What a device holds at launch, gathered from the unscoped buffers and the messages. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_eq_of_list cfg0.spec c Pipeline.Prefetch.none (fun b => m ((c : Thread nD τ).loc b)) [main_arg1] (by decide) (by decide)]
  unfold G' records
  iintro ⟨Hw, Hlev, Hcr, -, ⟨%K, ⟨HI, HR⟩, HL⟩⟩
  ihave Hc := (creds (F := F) c) $$ Hcr
  ihave Hw' := (show (bigSepL [main_arg1] fun b => ((c : Thread nD τ).loc b) ↦{fullShare} m ((c : Thread nD τ).loc b) : sProp 𝕄) ⊢ (wL c ↦{fullShare} (wAt m ρ c)) from
    BI.Entails.refl _) $$ Hw
  imodintro
  unfold start
  isplitl
  · isplitl [HI HR Hlev]
    · iexists K; unfold recs
      isplitl [HI]; · iexact HI
      isplitl [HR] <;> iassumption
    isplitl [HL]; · iexact HL
    isplitl [Hc] <;> iassumption
  · iempintro

/-- The assertion before the grid point, from what the device holds at launch and the scoped buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H⟩
  isplitl [Hs]; · iexact Hs
  iexact H

/-- What device `c` holds after the run, besides its windows' arrays. -/
def Held (c : Dev nD) : sProp 𝕄 := iprop(unscopedSems0 c ∗ bigSep ({main_arg1} : Finset (Ref sig .tc)) fun b => ((c : Thread nD τ).loc b) ↦{fullShare} m ((c : Thread nD τ).loc b))

/-- The assertion after the grid point gives back the argument, the semaphores at zero and the scoped buffers. -/
theorem phi1_exit (c : Dev nD) :
    (dats m ρ 0 c).Φ (Fin.last cfg0.N) ⊢ iprop(Held m c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ Held
  rw [bigSep_singleton, unscopedSems0_eq]
  iintro ⟨Hs, Hr, Hb, Hw, Hz, Hzs⟩
  isplitl [Hz Hw]
  · isplitl [Hz]; · iexact Hz
    iexact Hw
  isplitl [Hzs]; · iexact Hzs
  isplitl [Hs]; · iexists (sbuf m ρ c); iexact Hs
  isplitl [Hr]; · iexists (rbuf m ρ c); iexact Hr
  iexists (bbuf m ρ c); iexact Hb

/-- The pipeline's own waits are below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every device's arrays at what the pipeline computes, and its copy of `w` unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 20000 in
/-- From any memory with zero counters, every fair execution ends, with each device's arrays at the computed contents, `w` unchanged,
    and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := Held m) (Z := fun _ => iprop(emp))
    (hX := start_intro m ρ) (hin := phi0_intro m ρ) (hout := phi1_exit m ρ)
    (QY := fun c s => (∀ b ∈ ({main_arg1} : Finset (Ref sig .tc)), s.mem ((c : Thread nD τ).loc b) = m ((c : Thread nD τ).loc b))
      ∧ ∀ sm : SemLoc sig, sm.isScoped .tc = false → s.sem ((c.tc : Thread nD τ), sm) = 0)
    (hY := fun c s' => by
      unfold Held
      iintro ⟨⟨Hu, Hw⟩, -, HSI⟩
      ihave H := (pointsTo_read_all ({main_arg1} : Finset (Ref sig .tc)) (fun b => (c : Thread nD τ).loc b) (fun b => m ((c : Thread nD τ).loc b)) s') $$ [Hw HSI]
      · isplitl [Hw] <;> iassumption
      icases H with ⟨%hm, HSI⟩
      imod (Pipeline.unscopedSems0_read (X := unscopedSems0 c) (c := c) fupd_intro s') $$ [Hu HSI] with ⟨%hz, HSI⟩
      · isplitl [Hu] <;> iassumption
      imodintro
      isplitr; · (ipureintro; exact ⟨hm, hz⟩)
      iexact HSI)
    (hQ := fun _ h hs => ⟨fun c => ⟨fun w => (h c).1 w, (h c).2.2.1 main_arg1 (Finset.mem_singleton_self _)⟩, sem_eq_zero hs fun c => (h c).2.2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result's array after the run holds what the body computed. -/
theorem finalA_out (c : Dev nD) : finalA m ρ c (1 : Fin 2) = outAt m ρ c := by
  refine (dats m ρ 0 c).arrAt_eq_of_after_last 1 t0_0 (by decide +kernel) _ fun j => ?_
  blk_simp
  rfl

end Cert.KernelIdealProof

end
-- ==== Proof.Silu.lean ====
/-
The arithmetic of the result: a product summed in eight groups from a turned start, and SiLU written two ways.
-/
module

public import Idealize.ShloMosaic.PureOps.Ideal.Laws
public import Idealize.ShloMosaic.Lib.IdealHost
public import Idealize.ShloMosaic.Lib.Pipeline.ValueKit.Acc
public import Mathlib.Data.EReal.Inv

@[expose] public section

noncomputable section

namespace Cert.Silu

open Idealize.ShloMosaic Finset

/-- Where position `q` of a buffer that starts at block `c` stands in the whole. -/
def turn (c q : ℕ) : ℕ := 128 * ((q / 128 + c) % 32) + q % 128

/-- The position turned to is inside. -/
theorem turn_lt (c q : ℕ) : turn c q < 4096 := by unfold turn; omega

/-- A sum over all positions from block `c` on is the sum over all positions. -/
theorem sum_turn (c : ℕ) (u : ℕ → EReal) : ∑ q ∈ range 4096, u (turn c q) = ∑ q ∈ range 4096, u q := by
  refine sum_bij' (fun q _ => turn c q) (fun q _ => turn (32 - c % 32) q) (fun q _ => mem_range.mpr (turn_lt c q))
    (fun q _ => mem_range.mpr (turn_lt _ q)) (fun q hq => ?_) (fun q hq => ?_) (fun q _ => rfl)
  all_goals
    have := mem_range.mp hq
    unfold turn
    omega

/-- The sum of one group of 512 positions. -/
def group (t : ℕ → EReal) (o : ℕ) : EReal := ∑ k : Fin 512, t (o + k.val)

/-- The eight groups, the last first, onto zero: the sum of all positions. -/
theorem groups (t : ℕ → EReal) : 0 + group t 3584 + group t 3072 + group t 2560 + group t 2048 + group t 1536 + group t 1024 + group t 512 + group t 0
    = ∑ q ∈ range 4096, t q := by
  have h : ∑ q ∈ range 4096, t q = ∑ g ∈ range 8, group t (g * 512) := by
    rw [show (4096 : ℕ) = 8 * 512 from rfl, Finset.sum_range_mul_split]
    exact sum_congr rfl fun g _ => (Fin.sum_univ_eq_sum_range (fun k => t (g * 512 + k)) 512).symm
  rw [h]
  simp only [sum_range_succ, sum_range_zero]
  norm_num
  ac_rfl

/-- An exponential is at least zero. -/
theorem exp_nonneg (x : EReal) : 0 ≤ Ideal.exp x := by
  induction x with
  | bot => exact le_refl _
  | top => exact le_top
  | coe r => exact EReal.coe_nonneg.mpr (Real.exp_pos r).le

/-- The denominator is not zero. -/
theorem denom_ne (x : EReal) : 1 + Ideal.exp x ≠ 0 := by
  have h : (0 : EReal) < 1 + Ideal.exp x := lt_of_lt_of_le zero_lt_one (le_add_of_nonneg_right (exp_nonneg x))
  exact h.ne'

/-- A product with the reciprocal is the quotient. -/
theorem silu (y : EReal) : y * Ideal.div 1 (1 + Ideal.exp (0 - y)) = Ideal.div y (1 + Ideal.exp (-y)) := by
  rw [zero_sub]
  unfold Ideal.div
  rw [if_neg (denom_ne _), if_neg (denom_ne _), one_mul]

/-- The bounds of the precondition and of the clip. -/
theorem ofBits_part : Ideal.ofBits .f32 0x3FF00000#32 = ((1.875 : ℝ) : EReal) := by
  simp [Ideal.ofBits, Ideal.ieee, -EReal.coe_mul]; norm_num

/-- The word of -60 / 32. -/
theorem ofBits_neg_part : Ideal.ofBits .f32 0xBFF00000#32 = ((-1.875 : ℝ) : EReal) := by
  simp [Ideal.ofBits, Ideal.ieee, -EReal.coe_mul, -EReal.coe_neg]; norm_num

/-- The word of 60. -/
theorem ofBits_clip : Ideal.ofBits .f32 0x42700000#32 = ((60 : ℝ) : EReal) := by
  simp [Ideal.ofBits, Ideal.ieee, -EReal.coe_mul]; norm_num

/-- The word of -60. -/
theorem ofBits_neg_clip : Ideal.ofBits .f32 0xC2700000#32 = ((-60 : ℝ) : EReal) := by
  simp [Ideal.ofBits, Ideal.ieee, -EReal.coe_mul, -EReal.coe_neg]; norm_num

/-- Thirty-two times the same. -/
theorem sum_same (r : ℝ) : ∑ _j ∈ range 32, (r : EReal) = ((32 * r : ℝ) : EReal) := by
  rw [sum_const, card_range, ← EReal.coe_nsmul, nsmul_eq_mul]; norm_num

/-- Thirty-two parts, each within 1.875 of zero, sum to a value that the clip leaves alone. -/
theorem clip_sum (p : ℕ → EReal) (hl : ∀ j < 32, ((-1.875 : ℝ) : EReal) ≤ p j) (hu : ∀ j < 32, p j ≤ ((1.875 : ℝ) : EReal)) :
    min ((60 : ℝ) : EReal) (max ((-60 : ℝ) : EReal) (∑ j ∈ range 32, p j)) = ∑ j ∈ range 32, p j := by
  have h1 : ((-60 : ℝ) : EReal) ≤ ∑ j ∈ range 32, p j := by
    have := sum_le_sum fun j hj => hl j (mem_range.mp hj)
    rw [sum_same] at this
    norm_num at this ⊢
    exact this
  have h2 : ∑ j ∈ range 32, p j ≤ ((60 : ℝ) : EReal) := by
    have := sum_le_sum fun j hj => hu j (mem_range.mp hj)
    rw [sum_same] at this
    norm_num at this ⊢
    exact this
  rw [max_eq_right h1, min_eq_right h2]

/-- The sum over 4096 positions by 32 blocks of 128. -/
theorem blocks (t : ℕ → EReal) : ∑ q ∈ range 4096, t q = ∑ j ∈ range 32, ∑ l ∈ range 128, t (128 * j + l) := by
  rw [show (4096 : ℕ) = 32 * 128 from rfl, Finset.sum_range_mul_split]
  exact sum_congr rfl fun j _ => sum_congr rfl fun l _ => by rw [Nat.mul_comm]

end Cert.Silu

end
-- ==== Proof.KernelIdealValue.lean ====
/-
The kernel's result at the ideal values: on each device, its block of the SiLU of the whole product.
-/
module

public import proofs.«01_k».proof.Proof.KernelIdealOut
public import proofs.«01_k».proof.Proof.Silu
public import Idealize.ShloMosaic.Lib.MatmulPlain
public import Idealize.ShloMosaic.Lib.Layout
public import Idealize.ShloMosaic.Lib.Pipeline.Value
public import Idealize.ShloMosaic.Lib.Pipeline.ValueKit

@[expose] public section

noncomputable section

namespace Cert.KernelIdealProof

open Cert.KernelIdeal Cert.KernelIdeal.Gen Cert.Pieces Cert.Silu

open Idealize.ShloMosaic hiding ix2
open Idealize.ShloMosaic.ValueIdx (ix2)
open Idealize.ShloMosaic.TcCoe Idealize.SL.Sem Finset

abbrev SX : Shape := ⟨2, ![4096, 4096]⟩
abbrev SW : Shape := ⟨2, ![4096, 2048]⟩

/-! ## One product -/

/-- One addition to the accumulator, at an index. -/
theorem pay_apply (acc : FVec Ideal S128x2048 .f32) (x : FVec Ideal S128x512 .bf16) (w : FVec Ideal S512x2048 .f32) (a : Fin 128) (n : Fin 2048) :
    k0_pay3 acc x w (ix2 a n) = acc (ix2 a n) + ∑ k : Fin 512, x (ix2 a k) * w (ix2 k n) := by
  have h := Ideal.matmul_plain_apply (M := 128) (K := 512) (N := 2048) none x (truncf .bf16 w bitsLt_bf16_f32) (constant S128x2048 .f32 0x00000000#32) a n
  have hz : (constant S128x2048 .f32 0x00000000#32 : FVec Ideal S128x2048 .f32) (ix2 a n) = 0 := Ideal.ofBits_zero_f32
  rw [hz, zero_add] at h
  exact congrArg (acc (ix2 a n) + ·) h

/-- The last addition, and the SiLU of what it leaves. -/
theorem pay10_apply (acc : FVec Ideal S128x2048 .f32) (x : FVec Ideal S128x512 .bf16) (w : FVec Ideal S512x2048 .f32) (i : S128x2048.Idx) :
    k0_pay10 acc x w i = Ideal.div (k0_pay3 acc x w i) (1 + Ideal.exp (-(k0_pay3 acc x w i))) := by
  have h : k0_pay10 acc x w i = k0_pay3 acc x w i * Ideal.div (Ideal.ofBits .f32 0x3F800000#32)
      (Ideal.ofBits .f32 0x3F800000#32 + Ideal.exp (Ideal.ofBits .f32 0x00000000#32 - k0_pay3 acc x w i)) := rfl
  rw [h, Ideal.ofBits_one_f32, Ideal.ofBits_zero_f32, silu]

/-! ## The buffers -/

section Buffers

variable (m : (ℓ : Loc nD τ sig) → Buf (Elt Ideal) ℓ) (ρ : Dev nD → PrngReg) (X : SX.Idx → EReal) (W : SW.Idx → EReal)

/-- Each device holds its columns of `X`, and the whole of `W`. -/
def Given : Prop :=
  ∀ c : Dev nD, m ((c.tc : Thread nD τ).loc main_arg0) = Layout.block ⟨2, ![4096, 128]⟩ ⟨2, ![4096, 4096]⟩ 1 32 c X
    ∧ m ((c.tc : Thread nD τ).loc main_arg1) = W

/-- `X` and `W` at numbers, zero outside. -/
def xAt (r k : ℕ) : EReal := if h : r < 4096 ∧ k < 4096 then X (ix2 ⟨r, h.1⟩ ⟨k, h.2⟩) else 0
def wAtN (k n : ℕ) : EReal := if h : k < 4096 ∧ n < 2048 then W (ix2 ⟨k, h.1⟩ ⟨n, h.2⟩) else 0

/-- One term of the product. -/
def term (r n k : ℕ) : EReal := xAt X r k * wAtN W k n

variable {m X W} (h : Given m X W)
include h

/-- The send buffer holds the device's columns of `X`. -/
theorem sbuf_at (c : Dev nD) (i : S4096x128.Idx) : sbuf m ρ c i = xAt X (i 0).val (128 * c.val + (i 1).val) := by
  have h0 : (i 0).val < 4096 := (i 0).isLt
  have h1 : (i 1).val < 128 := (i 1).isLt
  have hc := lt32 c
  have e : sbuf m ρ c = m ((c.tc : Thread nD τ).loc main_arg0) := by
    unfold sbuf k0_pay1
    dsimp only
    rw [shapeCast_self, shapeCast_self]
    unfold xstg
    funext j
    show View.read (Elt Ideal) (win0_0.blk (0 : Fin 1)).view _ j = _
    blk_simp
    refine congrArg (m ((c.tc : Thread nD τ).loc main_arg0)) (funext fun b => Fin.ext ?_)
    have hz : ∀ a : Fin 2, ((win0_0.rect (0 : Fin 1)).off a) = 0 := fun a => Nat.zero_mul _
    have he : ((win0_0.blk (0 : Fin 1)).view.emb j b).val = (win0_0.rect (0 : Fin 1)).off b + 1 * (j b).val := rfl
    exact he.trans (by rw [hz b, zero_add, one_mul])
  rw [e, (h c).1]
  unfold xAt
  rw [dif_pos ⟨h0, by omega⟩]
  refine congrArg X (funext fun b => Fin.ext ?_)
  match b with
  | ⟨0, _⟩ => rfl
  | ⟨1, _⟩ => exact (Layout.Tiles.idx_val _ c i 1).trans (by simp [Nat.mul_comm])

/-- The row buffer holds its rows, the columns from its own block on, around. -/
theorem rbuf_at (c : Dev nD) (i : S128x4096.Idx) : rbuf m ρ c i = xAt X (128 * c.val + (i 0).val) (turn c.val (i 1).val) := by
  unfold rbuf
  rw [sbuf_at ρ h]
  unfold turn
  rw [dv_val, Nat.add_comm c.val]

/-- The buffer for `w` holds the rows of `W` in the same order. -/
theorem bbuf_at (c : Dev nD) (i : S4096x2048.Idx) : bbuf m ρ c i = wAtN W (turn c.val (i 0).val) (i 1).val := by
  have h1 : (i 1).val < 2048 := (i 1).isLt
  unfold bbuf wAt
  show m _ _ = _
  rw [(h c).2]
  unfold wAtN
  rw [dif_pos ⟨turn_lt _ _, h1⟩]
  refine congrArg W (funext fun b => ?_)
  match b with
  | ⟨0, _⟩ => rfl
  | ⟨1, _⟩ => rfl

/-- What a product reads of the row buffer and of the buffer for `w`. -/
theorem cols_at (c : Dev nD) (o : ℕ) (ho) (a : Fin 128) (k : Fin 512) :
    colsFrom m ρ c o ho (ix2 a k) = xAt X (128 * c.val + a.val) (turn c.val (o + k.val)) := by
  have e : colsFrom m ρ c o ho (ix2 a k) = rbuf m ρ c ((Rect.unit (s := S128x4096) ![0, o] S128x512.size ho).toLoadRect.idx (ix2 a k)) := rfl
  have h0 : (((Rect.unit (s := S128x4096) ![0, o] S128x512.size ho).toLoadRect.idx (ix2 a k)) 0).val = 0 + 1 * a.val := rfl
  have h1 : (((Rect.unit (s := S128x4096) ![0, o] S128x512.size ho).toLoadRect.idx (ix2 a k)) 1).val = o + 1 * k.val := rfl
  rw [e, rbuf_at ρ h, h0, h1, one_mul, one_mul, zero_add]

/-- The 512 rows of it that a product reads. -/
theorem rows_at (c : Dev nD) (o : ℕ) (ho) (k : Fin 512) (n : Fin 2048) :
    rowsFrom m ρ c o ho (ix2 k n) = wAtN W (turn c.val (o + k.val)) n.val := by
  have e : rowsFrom m ρ c o ho (ix2 k n) = bbuf m ρ c ((Rect.unit (s := S4096x2048) ![o, 0] S512x2048.size ho).toLoadRect.idx (ix2 k n)) := rfl
  have h0 : (((Rect.unit (s := S4096x2048) ![o, 0] S512x2048.size ho).toLoadRect.idx (ix2 k n)) 0).val = o + 1 * k.val := rfl
  have h1 : (((Rect.unit (s := S4096x2048) ![o, 0] S512x2048.size ho).toLoadRect.idx (ix2 k n)) 1).val = 0 + 1 * n.val := rfl
  rw [e, bbuf_at ρ h, h0, h1, one_mul, one_mul, zero_add]

/-- One addition, of the group of positions from `o` on. -/
theorem pay_at (c : Dev nD) (o : ℕ) (ho) (ho') (acc : FVec Ideal S128x2048 .f32) (a : Fin 128) (n : Fin 2048) :
    k0_pay3 acc (colsFrom m ρ c o ho) (rowsFrom m ρ c o ho') (ix2 a n)
      = acc (ix2 a n) + group (fun q => term X W (128 * c.val + a.val) n.val (turn c.val q)) o := by
  rw [pay_apply]
  refine congrArg (acc (ix2 a n) + ·) (sum_congr rfl fun k _ => ?_)
  rw [cols_at ρ h, rows_at ρ h]
  rfl

/-- The result is the SiLU of the row of `X` against the column of `W`. -/
theorem outAt_at (c : Dev nD) (a : Fin 128) (n : Fin 2048) :
    outAt m ρ c (ix2 a n) = Ideal.div (∑ k ∈ range 4096, term X W (128 * c.val + a.val) n.val k)
      (1 + Ideal.exp (-(∑ k ∈ range 4096, term X W (128 * c.val + a.val) n.val k))) := by
  unfold outAt
  rw [pay10_apply, pay_at ρ h c _ _ _ _ a n]
  rw [show @k0_pay9 Ideal _ = @k0_pay3 Ideal _ from rfl, pay_at ρ h c _ _ _ _ a n]
  rw [show @k0_pay8 Ideal _ = @k0_pay3 Ideal _ from rfl, pay_at ρ h c _ _ _ _ a n]
  rw [show @k0_pay7 Ideal _ = @k0_pay3 Ideal _ from rfl, pay_at ρ h c _ _ _ _ a n]
  rw [show @k0_pay6 Ideal _ = @k0_pay3 Ideal _ from rfl, pay_at ρ h c _ _ _ _ a n]
  rw [show @k0_pay5 Ideal _ = @k0_pay3 Ideal _ from rfl, pay_at ρ h c _ _ _ _ a n]
  rw [show @k0_pay4 Ideal _ = @k0_pay3 Ideal _ from rfl, pay_at ρ h c _ _ _ _ a n]
  rw [pay_at ρ h c _ _ _ _ a n]
  rw [show (k0_pay2 : FVec Ideal S128x2048 .f32) (ix2 a n) = 0 from Ideal.ofBits_zero_f32, groups, sum_turn]

end Buffers

end Cert.KernelIdealProof

end
-- ==== Proof.Refs.lean ====
/-
The two references at an index, and what the precondition says of one device's part of the product.
-/
module

public import proofs.«01_k».proof.Proof.KernelIdealValue
public import proofs.«01_k».proof.Proof.Gen.ReferenceIdeal.Run
public import proofs.«01_k».proof.Proof.Gen.ClippedIdeal.Run
public import proofs.«01_k».proof.Proof.Gen.Pre_tame_KernelIdeal
public import Idealize.ShloMosaic.Lib.StackMember
public import Idealize.ShloMosaic.Lib.ReduceAll
public import Idealize.ShloMosaic.Lib.Pointwise

@[expose] public section

noncomputable section

namespace Cert.Refs

open Cert.Silu Cert.KernelIdealProof
open Idealize.ShloMosaic hiding ix2
open Idealize.ShloMosaic.ValueIdx (ix2)
open Idealize.ShloMosaic.TcCoe Idealize.SL.Sem Finset

/-! ## The references -/

section Refs

variable (X : SX.Idx → EReal) (W : SW.Idx → EReal)

/-- A term at an index inside the arrays. -/
theorem term_in (r : Fin 4096) (n : Fin 2048) (k : Fin 4096) : term X W r.val n.val k.val = X (ix2 r k) * W (ix2 k n) := by
  unfold term xAt wAtN
  rw [dif_pos ⟨r.isLt, k.isLt⟩, dif_pos ⟨k.isLt, n.isLt⟩]

/-- The whole product at an index. -/
theorem dot_at (r : Fin 4096) (n : Fin 2048) :
    Host.dotGeneral (F := Ideal) (φ₁ := .f32) (φ₂ := .f32) (DotDims.plain 4096 4096 2048) none X W (ix2 r n) = ∑ k ∈ range 4096, term X W r.val n.val k := by
  refine (StackMember.dotGeneral_plain_apply none X W r n).trans ?_
  rw [← Fin.sum_univ_eq_sum_range]
  exact sum_congr rfl fun k _ => (term_in X W r n k).symm

/-- The plain reference's result. -/
def plain : SW.Idx → EReal :=
  Host.divf (F := Ideal) (φ := .f32) (Host.dotGeneral (φ₁ := .f32) (φ₂ := .f32) Cert.ReferenceIdeal.dot_S4096x4096_S4096x2048_S4096x2048_1_0_0_1_n_n none X W)
    (addf (broadcastInDim SW ![] Cert.ReferenceIdeal.Gen.bcast_S_S4096x2048 (constant ⟨0, ![]⟩ .f32 0x3F800000#32))
      (Host.exp (Host.negf (Host.dotGeneral (φ₁ := .f32) (φ₂ := .f32) Cert.ReferenceIdeal.dot_S4096x4096_S4096x2048_S4096x2048_1_0_0_1_n_n none X W))))

/-- The plain reference's result at an index. -/
theorem plain_at (r : Fin 4096) (n : Fin 2048) :
    plain X W (ix2 r n) = Ideal.div (∑ k ∈ range 4096, term X W r.val n.val k) (1 + Ideal.exp (-(∑ k ∈ range 4096, term X W r.val n.val k))) := by
  rw [← dot_at, ← Ideal.ofBits_one_f32]
  rfl

/-- The clipped reference's result. -/
def clip : SW.Idx → EReal :=
  Host.divf (F := Ideal) (φ := .f32) (Host.dotGeneral (φ₁ := .f32) (φ₂ := .f32) Cert.ClippedIdeal.dot_S4096x4096_S4096x2048_S4096x2048_1_0_0_1_n_n none X W)
    (addf (broadcastInDim SW ![] Cert.ClippedIdeal.Gen.bcast_S_S4096x2048 (constant ⟨0, ![]⟩ .f32 0x3F800000#32))
      (Host.exp (Host.negf
        (minimumf (broadcastInDim SW ![] Cert.ClippedIdeal.Gen.bcast_S_S4096x2048 (id (constant ⟨0, ![]⟩ .f32 0x42700000#32)))
          (maximumf (broadcastInDim SW ![] Cert.ClippedIdeal.Gen.bcast_S_S4096x2048 (id (constant ⟨0, ![]⟩ .f32 0xC2700000#32)))
            (Host.dotGeneral (φ₁ := .f32) (φ₂ := .f32) Cert.ClippedIdeal.dot_S4096x4096_S4096x2048_S4096x2048_1_0_0_1_n_n none X W))))))

/-- The clipped reference's result at an index. -/
theorem clip_at (r : Fin 4096) (n : Fin 2048) :
    clip X W (ix2 r n) = Ideal.div (∑ k ∈ range 4096, term X W r.val n.val k)
      (1 + Ideal.exp (-(min ((60 : ℝ) : EReal) (max ((-60 : ℝ) : EReal) (∑ k ∈ range 4096, term X W r.val n.val k))))) := by
  rw [← dot_at, ← Ideal.ofBits_one_f32, ← ofBits_clip, ← ofBits_neg_clip]
  rfl

end Refs

/-! ## The precondition -/

/-- One device's columns against row block `j`: an element is a sum of 128 products. -/
theorem part_at (x : Cert.Pre_tame_KernelIdeal.S4096x128.Idx → EReal) (w : SW.Idx → EReal) (r : Fin 4096) (j : Fin 32) (n : Fin 2048) :
    Host.dotGeneral (F := Ideal) (φ₁ := .f32) (φ₂ := .f32) Cert.Pre_tame_KernelIdeal.dot_S4096x128_S32x128x2048_S4096x32x2048_1_1_0_02_n_n none x
        (shapeCast Cert.Pre_tame_KernelIdeal.S32x128x2048 w Cert.Pre_tame_KernelIdeal.Gen.shapeCasts_S4096x2048_S32x128x2048) (ix3 r j n)
      = ∑ l : Fin 128, x (Idealize.ShloMosaic.ix2 r l) * w (Idealize.ShloMosaic.ix2 ⟨j.val * 128 + l.val, by omega⟩ n) := by
  pointwise

/-- A comparison that reads one holds. -/
theorem of_cmp {P : Prop} [Decidable P] (h : BitVec.ofBool (decide P) = 1#1) : P := by
  by_contra hp
  rw [decide_eq_false hp] at h
  exact absurd h (by decide)

/-- Under the precondition every element of the device's part is within the two bounds. -/
theorem tame_bounds {x : Cert.Pre_tame_KernelIdeal.S4096x128.Idx → EReal} {w : SW.Idx → EReal}
    (h : Cert.Pre_tame_KernelIdeal.fn (F := Ideal) x w = fun _ => 1#1) (r : Fin 4096) (j : Fin 32) (n : Fin 2048) :
    ((-1.875 : ℝ) : EReal) ≤ ∑ l : Fin 128, x (Idealize.ShloMosaic.ix2 r l) * w (Idealize.ShloMosaic.ix2 ⟨j.val * 128 + l.val, by omega⟩ n)
      ∧ ∑ l : Fin 128, x (Idealize.ShloMosaic.ix2 r l) * w (Idealize.ShloMosaic.ix2 ⟨j.val * 128 + l.val, by omega⟩ n) ≤ ((1.875 : ℝ) : EReal) := by
  haveI : Subsingleton Cert.Pre_tame_KernelIdeal.S_.Idx := ⟨fun a b => funext fun i => i.elim0⟩
  have h0 := congrFun h (fun i => i.elim0)
  unfold Cert.Pre_tame_KernelIdeal.fn at h0
  have h1 := Host.reduce_andi_all _ _ _ _ _ h0 (ix3 r j n)
  obtain ⟨ha, hb⟩ := IntOp.andi_eq_one.1 h1
  rw [← part_at, ← ofBits_part, ← ofBits_neg_part]
  exact ⟨of_cmp ha, of_cmp hb⟩

/-- Device `j`'s part of an element of the product, as a block of the whole sum. -/
theorem part_sum (X : SX.Idx → EReal) (W : SW.Idx → EReal) (j : Fin 32) (r : Fin 4096) (n : Fin 2048) :
    ∑ l : Fin 128, (Layout.block ⟨2, ![4096, 128]⟩ ⟨2, ![4096, 4096]⟩ 1 32 j X) (Idealize.ShloMosaic.ix2 r l)
        * W (Idealize.ShloMosaic.ix2 ⟨j.val * 128 + l.val, by omega⟩ n)
      = ∑ l ∈ range 128, term X W r.val n.val (128 * j.val + l) := by
  rw [← Fin.sum_univ_eq_sum_range (fun l => term X W r.val n.val (128 * j.val + l))]
  refine sum_congr rfl fun l _ => ?_
  rw [Layout.block_apply]
  refine Eq.trans ?_ (term_in X W r n ⟨128 * j.val + l.val, by omega⟩).symm
  refine congrArg₂ (· * ·) (congrArg X (funext fun b => Fin.ext ?_)) (congrArg W (funext fun b => Fin.ext ?_))
  · match b with
    | ⟨0, _⟩ => rfl
    | ⟨1, _⟩ => exact (Layout.Tiles.idx_val _ j _ 1).trans (by simp [Nat.mul_comm])
  · match b with
    | ⟨0, _⟩ => exact congrArg (· + l.val) (Nat.mul_comm _ _)
    | ⟨1, _⟩ => rfl

section Tame

variable {m : (ℓ : Loc Cert.KernelIdeal.nD Cert.KernelIdeal.τ Cert.KernelIdeal.sig) → Buf (Elt Ideal) ℓ} {X : SX.Idx → EReal} {W : SW.Idx → EReal}
  (h : Given m X W)

include h in
/-- Under the precondition the clip leaves every element of the product as it is. -/
theorem clip_same (ht : ∀ c : Dev Cert.KernelIdeal.nD,
      Cert.Pre_tame_KernelIdeal.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    clip X W = plain X W := by
  refine funext fun i => ?_
  obtain ⟨r, n, rfl⟩ : ∃ r n, i = ix2 r n := ⟨i 0, i 1, funext fun b => by match b with | ⟨0, _⟩ => rfl | ⟨1, _⟩ => rfl⟩
  have hb : ∀ j < 32, ((-1.875 : ℝ) : EReal) ≤ ∑ l ∈ range 128, term X W r.val n.val (128 * j + l)
      ∧ ∑ l ∈ range 128, term X W r.val n.val (128 * j + l) ≤ ((1.875 : ℝ) : EReal) := fun j hj => by
    have hd := ht ⟨j, hj⟩
    rw [(h ⟨j, hj⟩).1, (h ⟨j, hj⟩).2] at hd
    have hb := tame_bounds hd r ⟨j, hj⟩ n
    rwa [part_sum X W ⟨j, hj⟩ r n] at hb
  have hc := clip_sum (fun j => ∑ l ∈ range 128, term X W r.val n.val (128 * j + l)) (fun j hj => (hb j hj).1) fun j hj => (hb j hj).2
  rw [← blocks] at hc
  rw [clip_at, plain_at, hc]

include h in
/-- What each device computes is its block of the plain reference's result. -/
theorem out_block (ρ : Dev Cert.KernelIdeal.nD → PrngReg) (c : Dev Cert.KernelIdeal.nD) :
    outAt m ρ c = Layout.block ⟨2, ![128, 2048]⟩ ⟨2, ![4096, 2048]⟩ 0 32 c (plain X W) := by
  refine funext fun i => ?_
  obtain ⟨a, n, rfl⟩ : ∃ a n, i = ix2 a n := ⟨i 0, i 1, funext fun b => by match b with | ⟨0, _⟩ => rfl | ⟨1, _⟩ => rfl⟩
  have hr : c.val * 128 + a.val < 4096 := by have := c.isLt; have : c.val < 32 := this; omega
  rw [outAt_at ρ h c a n, Layout.block_apply, Nat.mul_comm 128]
  refine (plain_at X W ⟨c.val * 128 + a.val, hr⟩ n).symm.trans (congrArg (plain X W) (funext fun b => Fin.ext ?_))
  match b with
  | ⟨0, _⟩ => rfl
  | ⟨1, _⟩ => rfl

end Tame

end Cert.Refs

end
-- ==== Proof.lean ====
/-
The claims about the kernel and its references, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_tame_KernelIdeal
public import proofs.«01_k».proof.Proof.Gen.Pre_tame_ClippedIdeal
public import proofs.«01_k».proof.Proof.KernelRun
public import proofs.«01_k».proof.Proof.KernelIdealRun
public import proofs.«01_k».proof.Proof.Refs
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed ends with its arguments unchanged and its counters at zero. -/
theorem quiescent_p : Cert.quiescent_Kernel (hKernel := Cert.Kernel.Gen.facts) := by
  intro m ρ _
  exact (θ_run Cert.Kernel.defs _ _).mono
    (fun _ h => ⟨fun c => ⟨((h.1 c).1 (0 : Fin 2)).trans (Cert.KernelProof.finalA_x m ρ c), (h.1 c).2⟩, h.2⟩) (Cert.KernelProof.run_main (F := Bits) m ρ)

/-- The idealized kernel does, too. -/
theorem quiescent_pi : Cert.quiescent_KernelIdeal (hKernelIdeal := Cert.KernelIdeal.Gen.facts) := by
  intro m ρ _
  exact (θ_run Cert.KernelIdeal.defs _ _).mono
    (fun _ h => ⟨fun c => ⟨((h.1 c).1 (0 : Fin 2)).trans (Cert.KernelIdealProof.finalA_x m ρ c), (h.1 c).2⟩, h.2⟩)
    (Cert.KernelIdealProof.run_main (F := Ideal) m ρ)

/-- The plain reference ends with its arguments unchanged; it has no counters. -/
theorem quiescent_ri : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The clipped reference does, too. -/
theorem quiescent_ci : Cert.quiescent_ClippedIdeal (hClippedIdeal := Cert.ClippedIdeal.Gen.facts) := by
  intro m ρ _
  exact (θ_run Cert.ClippedIdeal.defs _ _).mono (fun r h => ⟨fun c => (h c).2, sem_eq_zero_of_no_sems (by decide) r.2⟩)
    (Cert.ClippedIdeal.Value.run (F := Ideal) m ρ)

/-- Every device of the idealized kernel ends with its block of the plain reference's result. -/
theorem run_value {m : (ℓ : Loc Cert.KernelIdeal.nD Cert.KernelIdeal.τ Cert.KernelIdeal.sig) → Buf (Elt Ideal) ℓ}
    {X : Cert.KernelIdealProof.SX.Idx → EReal} {W : Cert.KernelIdealProof.SW.Idx → EReal} (h : Cert.KernelIdealProof.Given m X W) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = Layout.block ⟨2, ![128, 2048]⟩ ⟨2, ![4096, 2048]⟩ 0 32 c (Cert.Refs.plain X W)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun _ hr c => ⟨((hr.1 c).1 (1 : Fin 2)).trans ((Cert.KernelIdealProof.finalA_out m ρ c).trans (Cert.Refs.out_block h ρ c)),
      ((hr.1 c).1 (0 : Fin 2)).trans (Cert.KernelIdealProof.finalA_x m ρ c), (hr.1 c).2⟩)
    (Cert.KernelIdealProof.run_main (F := Ideal) m ρ)

/-- The kernel computes the plain reference. -/
theorem algebraic_plain : Cert.algebraic_KernelIdeal_ReferenceIdeal (hKernelIdeal := Cert.KernelIdeal.Gen.facts) (hReferenceIdeal := Cert.ReferenceIdeal.Gen.facts) := by
  intro m ρ m' ρ' _ h
  exact ⟨_, run_value h ρ, (θ_run Cert.ReferenceIdeal.defs _ _).mono (fun _ hr => hr 0) (Cert.ReferenceIdeal.Value.run (F := Ideal) m' ρ')⟩

/-- Where every part of the product is small, the kernel computes the clipped reference. -/
theorem algebraic_clip : Cert.algebraic_KernelIdeal_ClippedIdeal_pre_tame_KernelIdeal (hKernelIdeal := Cert.KernelIdeal.Gen.facts)
    (hClippedIdeal := Cert.ClippedIdeal.Gen.facts) (hPre_tame_KernelIdeal := Cert.Pre_tame_KernelIdeal.Gen.facts) := by
  intro m ρ m' ρ' ht h
  exact ⟨_, run_value h ρ, (θ_run Cert.ClippedIdeal.defs _ _).mono (fun _ hr => ⟨(hr 0).1.trans (Cert.Refs.clip_same h ht), (hr 0).2⟩)
    (Cert.ClippedIdeal.Value.run (F := Ideal) m' ρ')⟩

/-- All the claims. -/
theorem claim : Cert.Claim :=
  ⟨Cert.Kernel.Gen.facts, Cert.KernelIdeal.Gen.facts, Cert.ReferenceIdeal.Gen.facts, Cert.ClippedIdeal.Gen.facts, Cert.Pre_tame_KernelIdeal.Gen.facts,
    Cert.Pre_tame_ClippedIdeal.Gen.facts, quiescent_p, quiescent_pi, fun m ρ _ => quiescent_pi m ρ trivial, quiescent_ri, quiescent_ci,
    fun m ρ _ => quiescent_ci m ρ trivial, trivial, algebraic_plain, algebraic_clip⟩

end Cert.Proof

end
